-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S10000x10000 : Shape := ⟨2, ![10000, 10000]⟩
abbrev S128x128 : Shape := ⟨2, ![128, 128]⟩
abbrev S4x200x10000 : Shape := ⟨3, ![4, 200, 10000]⟩
abbrev S4 : Shape := ⟨1, ![4]⟩
abbrev S2x200x128 : Shape := ⟨3, ![2, 200, 128]⟩
abbrev S2 : Shape := ⟨1, ![2]⟩
abbrev S1 : Shape := ⟨1, ![1]⟩
abbrev S_ : Shape := ⟨0, ![]⟩
abbrev S1x200x10000 : Shape := ⟨3, ![1, 200, 10000]⟩
abbrev S200x10000 : Shape := ⟨2, ![200, 10000]⟩
abbrev S200x128 : Shape := ⟨2, ![200, 128]⟩
abbrev S1x200x128 : Shape := ⟨3, ![1, 200, 128]⟩

abbrev nBuf : Space → Nat
  | .hbm => 4
  | .vmem => 5
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S4x200x10000, .f32⟩
  | .local _ .vmem, ⟨4, _⟩ => ⟨S2x200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scoped0 : Ref sig .tc := ⟨.vmem, 3, rfl⟩
abbrev cc0_scoped2 : Ref sig .tc := ⟨.vmem, 4, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 : Fin 1 → Nat :=
  let c0_i32_27_r0 : BitVec 32 := 0#32
  let c4_i32_r0 : BitVec 32 := 4#32
  let v31_r0 : BitVec 32 := Scalar.remui c0_i32_27_r0 c4_i32_r0
  ![v31_r0.toNat]
def k0_off2 : Fin 3 → Nat :=
  let c0_i32_27_r0 : BitVec 32 := 0#32
  let c4_i32_r0 : BitVec 32 := 4#32
  let v31_r0 : BitVec 32 := Scalar.remui c0_i32_27_r0 c4_i32_r0
  let c0_i32_28_r0 : BitVec 32 := 0#32
  let c0_i32_29_r0 : BitVec 32 := 0#32
  ![v31_r0.toNat, 0, 0]
def k0_cond1 : BitVec 1 :=
  let true_35_r0 : BitVec 1 := 1#1
  let true_8_r0 : BitVec 1 := 1#1
  let c1_i32_r0 : BitVec 32 := 1#32
  let c0_i32_9_r0 : BitVec 32 := 0#32
  let v12_r0 : BitVec 32 := Scalar.select true_8_r0 c1_i32_r0 c0_i32_9_r0
  let c50_i32_r0 : BitVec 32 := 50#32
  let v13_r0 : BitVec 1 := Scalar.cmpi .eq v12_r0 c50_i32_r0
  let c0_i32_10_r0 : BitVec 32 := 0#32
  let v14_r0 : BitVec 32 := Scalar.select v13_r0 c0_i32_10_r0 v12_r0
  let c0_i32_11_r0 : BitVec 32 := 0#32
  let v15_r0 : BitVec 32 := Scalar.addi v14_r0 c0_i32_11_r0
  let c0_i32_34_r0 : BitVec 32 := 0#32
  let v38_r0 : BitVec 1 := Scalar.cmpi .ne v15_r0 c0_i32_34_r0
  let v39_r0 : BitVec 1 := Scalar.andi true_35_r0 v38_r0
  let true_36_r0 : BitVec 1 := 1#1
  let v40_r0 : BitVec 1 := Scalar.andi v39_r0 true_36_r0
  let v41_r0 : BitVec 32 := Scalar.extui v40_r0
  let c0_i32_37_r0 : BitVec 32 := 0#32
  let v42_r0 : BitVec 1 := Scalar.cmpi .ne v41_r0 c0_i32_37_r0
  v42_r0

def k0_off3 : Fin 1 → Nat :=
  let c0_i32_32_r0 : BitVec 32 := 0#32
  let c1_i32_33_r0 : BitVec 32 := 1#32
  let v37_r0 : BitVec 32 := Scalar.addi c0_i32_32_r0 c1_i32_33_r0
  let c4_i32_84_r0 : BitVec 32 := 4#32
  let v91_r0 : BitVec 32 := Scalar.remui v37_r0 c4_i32_84_r0
  ![v91_r0.toNat]
def k0_off4 : Fin 3 → Nat :=
  let c0_i32_32_r0 : BitVec 32 := 0#32
  let c1_i32_33_r0 : BitVec 32 := 1#32
  let v37_r0 : BitVec 32 := Scalar.addi c0_i32_32_r0 c1_i32_33_r0
  let c4_i32_84_r0 : BitVec 32 := 4#32
  let v91_r0 : BitVec 32 := Scalar.remui v37_r0 c4_i32_84_r0
  let c0_i32_86_r0 : BitVec 32 := 0#32
  let c0_i32_87_r0 : BitVec 32 := 0#32
  ![v91_r0.toNat, 0, 0]
def k0_off5 : Fin 2 → Nat :=
  let c200_i32_85_r0 : BitVec 32 := 200#32
  let true_8_r0 : BitVec 1 := 1#1
  let c1_i32_r0 : BitVec 32 := 1#32
  let c0_i32_9_r0 : BitVec 32 := 0#32
  let v12_r0 : BitVec 32 := Scalar.select true_8_r0 c1_i32_r0 c0_i32_9_r0
  let c50_i32_r0 : BitVec 32 := 50#32
  let v13_r0 : BitVec 1 := Scalar.cmpi .eq v12_r0 c50_i32_r0
  let c0_i32_10_r0 : BitVec 32 := 0#32
  let v14_r0 : BitVec 32 := Scalar.select v13_r0 c0_i32_10_r0 v12_r0
  let c0_i32_11_r0 : BitVec 32 := 0#32
  let v15_r0 : BitVec 32 := Scalar.addi v14_r0 c0_i32_11_r0
  let v92_r0 : BitVec 32 := Scalar.muli c200_i32_85_r0 v15_r0
  let c0_i32_88_r0 : BitVec 32 := 0#32
  ![v92_r0.toNat, 0]
def k0_cond2 : BitVec 1 :=
  let true_39_r0 : BitVec 1 := 1#1
  let true_13_r0 : BitVec 1 := 1#1
  let true_8_r0 : BitVec 1 := 1#1
  let c1_i32_r0 : BitVec 32 := 1#32
  let c0_i32_9_r0 : BitVec 32 := 0#32
  let v12_r0 : BitVec 32 := Scalar.select true_8_r0 c1_i32_r0 c0_i32_9_r0
  let c50_i32_r0 : BitVec 32 := 50#32
  let v13_r0 : BitVec 1 := Scalar.cmpi .eq v12_r0 c50_i32_r0
  let c0_i32_10_r0 : BitVec 32 := 0#32
  let v14_r0 : BitVec 32 := Scalar.select v13_r0 c0_i32_10_r0 v12_r0
  let c1_i32_12_r0 : BitVec 32 := 1#32
  let v16_r0 : BitVec 32 := Scalar.addi v14_r0 c1_i32_12_r0
  let v17_r0 : BitVec 32 := Scalar.select true_13_r0 v16_r0 v14_r0
  let c50_i32_14_r0 : BitVec 32 := 50#32
  let v18_r0 : BitVec 1 := Scalar.cmpi .eq v17_r0 c50_i32_14_r0
  let c0_i32_15_r0 : BitVec 32 := 0#32
  let v19_r0 : BitVec 32 := Scalar.select v18_r0 c0_i32_15_r0 v17_r0
  let c0_i32_16_r0 : BitVec 32 := 0#32
  let v20_r0 : BitVec 32 := Scalar.addi v19_r0 c0_i32_16_r0
  let c0_i32_11_r0 : BitVec 32 := 0#32
  let v15_r0 : BitVec 32 := Scalar.addi v14_r0 c0_i32_11_r0
  let v45_r0 : BitVec 1 := Scalar.cmpi .ne v20_r0 v15_r0
  let v46_r0 : BitVec 1 := Scalar.andi true_39_r0 v45_r0
  let true_40_r0 : BitVec 1 := 1#1
  let v47_r0 : BitVec 1 := Scalar.andi v46_r0 true_40_r0
  let v48_r0 : BitVec 32 := Scalar.extui v47_r0
  let c0_i32_41_r0 : BitVec 32 := 0#32
  let v49_r0 : BitVec 1 := Scalar.cmpi .ne v48_r0 c0_i32_41_r0
  v49_r0

def k0_off6 : Fin 1 → Nat :=
  let true_35_r0 : BitVec 1 := 1#1
  let true_8_r0 : BitVec 1 := 1#1
  let c1_i32_r0 : BitVec 32 := 1#32
  let c0_i32_9_r0 : BitVec 32 := 0#32
  let v12_r0 : BitVec 32 := Scalar.select true_8_r0 c1_i32_r0 c0_i32_9_r0
  let c50_i32_r0 : BitVec 32 := 50#32
  let v13_r0 : BitVec 1 := Scalar.cmpi .eq v12_r0 c50_i32_r0
  let c0_i32_10_r0 : BitVec 32 := 0#32
  let v14_r0 : BitVec 32 := Scalar.select v13_r0 c0_i32_10_r0 v12_r0
  let c0_i32_11_r0 : BitVec 32 := 0#32
  let v15_r0 : BitVec 32 := Scalar.addi v14_r0 c0_i32_11_r0
  let c0_i32_34_r0 : BitVec 32 := 0#32
  let v38_r0 : BitVec 1 := Scalar.cmpi .ne v15_r0 c0_i32_34_r0
  let v39_r0 : BitVec 1 := Scalar.andi true_35_r0 v38_r0
  let c0_i32_32_r0 : BitVec 32 := 0#32
  let c1_i32_33_r0 : BitVec 32 := 1#32
  let v37_r0 : BitVec 32 := Scalar.addi c0_i32_32_r0 c1_i32_33_r0
  let c1_i32_38_r0 : BitVec 32 := 1#32
  let v43_r0 : BitVec 32 := Scalar.addi v37_r0 c1_i32_38_r0
  let v44_r0 : BitVec 32 := Scalar.select v39_r0 v43_r0 v37_r0
  let c4_i32_84_r0 : BitVec 32 := 4#32
  let v91_r0 : BitVec 32 := Scalar.remui v44_r0 c4_i32_84_r0
  ![v91_r0.toNat]
def k0_off7 : Fin 3 → Nat :=
  let true_35_r0 : BitVec 1 := 1#1
  let true_8_r0 : BitVec 1 := 1#1
  let c1_i32_r0 : BitVec 32 := 1#32
  let c0_i32_9_r0 : BitVec 32 := 0#32
  let v12_r0 : BitVec 32 := Scalar.select true_8_r0 c1_i32_r0 c0_i32_9_r0
  let c50_i32_r0 : BitVec 32 := 50#32
  let v13_r0 : BitVec 1 := Scalar.cmpi .eq v12_r0 c50_i32_r0
  let c0_i32_10_r0 : BitVec 32 := 0#32
  let v14_r0 : BitVec 32 := Scalar.select v13_r0 c0_i32_10_r0 v12_r0
  let c0_i32_11_r0 : BitVec 32 := 0#32
  let v15_r0 : BitVec 32 := Scalar.addi v14_r0 c0_i32_11_r0
  let c0_i32_34_r0 : BitVec 32 := 0#32
  let v38_r0 : BitVec 1 := Scalar.cmpi .ne v15_r0 c0_i32_34_r0
  let v39_r0 : BitVec 1 := Scalar.andi true_35_r0 v38_r0
  let c0_i32_32_r0 : BitVec 32 := 0#32
  let c1_i32_33_r0 : BitVec 32 := 1#32
  let v37_r0 : BitVec 32 := Scalar.addi c0_i32_32_r0 c1_i32_33_r0
  let c1_i32_38_r0 : BitVec 32 := 1#32
  let v43_r0 : BitVec 32 := Scalar.addi v37_r0 c1_i32_38_r0
  let v44_r0 : BitVec 32 := Scalar.select v39_r0 v43_r0 v37_r0
  let c4_i32_84_r0 : BitVec 32 := 4#32
  let v91_r0 : BitVec 32 := Scalar.remui v44_r0 c4_i32_84_r0
  let c0_i32_86_r0 : BitVec 32 := 0#32
  let c0_i32_87_r0 : BitVec 32 := 0#32
  ![v91_r0.toNat, 0, 0]
def k0_off8 : Fin 2 → Nat :=
  let c200_i32_85_r0 : BitVec 32 := 200#32
  let true_13_r0 : BitVec 1 := 1#1
  let true_8_r0 : BitVec 1 := 1#1
  let c1_i32_r0 : BitVec 32 := 1#32
  let c0_i32_9_r0 : BitVec 32 := 0#32
  let v12_r0 : BitVec 32 := Scalar.select true_8_r0 c1_i32_r0 c0_i32_9_r0
  let c50_i32_r0 : BitVec 32 := 50#32
  let v13_r0 : BitVec 1 := Scalar.cmpi .eq v12_r0 c50_i32_r0
  let c0_i32_10_r0 : BitVec 32 := 0#32
  let v14_r0 : BitVec 32 := Scalar.select v13_r0 c0_i32_10_r0 v12_r0
  let c1_i32_12_r0 : BitVec 32 := 1#32
  let v16_r0 : BitVec 32 := Scalar.addi v14_r0 c1_i32_12_r0
  let v17_r0 : BitVec 32 := Scalar.select true_13_r0 v16_r0 v14_r0
  let c50_i32_14_r0 : BitVec 32 := 50#32
  let v18_r0 : BitVec 1 := Scalar.cmpi .eq v17_r0 c50_i32_14_r0
  let c0_i32_15_r0 : BitVec 32 := 0#32
  let v19_r0 : BitVec 32 := Scalar.select v18_r0 c0_i32_15_r0 v17_r0
  let c0_i32_16_r0 : BitVec 32 := 0#32
  let v20_r0 : BitVec 32 := Scalar.addi v19_r0 c0_i32_16_r0
  let v92_r0 : BitVec 32 := Scalar.muli c200_i32_85_r0 v20_r0
  let c0_i32_88_r0 : BitVec 32 := 0#32
  ![v92_r0.toNat, 0]
@[reducible] def k0_t1_loop : Scf.Loop 32 :=
  let c0_i32_47_r0 : BitVec 32 := 0#32
  let c50_i32_48_r0 : BitVec 32 := 50#32
  let v52_r0 : BitVec 32 := Scalar.addi c0_i32_47_r0 c50_i32_48_r0
  let c1_i32_49_r0 : BitVec 32 := 1#32
  ⟨c0_i32_47_r0, v52_r0, c1_i32_49_r0⟩
def k0_off9 (arg6_r0 : BitVec 32) : Fin 1 → Nat :=
  let c4_i32_148_r0 : BitVec 32 := 4#32
  let v190_r0 : BitVec 32 := Scalar.remui arg6_r0 c4_i32_148_r0
  ![v190_r0.toNat]
def k0_cond3 (k0_t1 : Fin k0_t1_loop.trips) (arg10_r0 : BitVec 32) : BitVec 1 :=
  let true_98_r0 : BitVec 1 := 1#1
  let true_93_r0 : BitVec 1 := 1#1
  let c1_i32_92_r0 : BitVec 32 := 1#32
  let v99_r0 : BitVec 32 := Scalar.addi arg10_r0 c1_i32_92_r0
  let v100_r0 : BitVec 32 := Scalar.select true_93_r0 v99_r0 arg10_r0
  let c50_i32_94_r0 : BitVec 32 := 50#32
  let v101_r0 : BitVec 1 := Scalar.cmpi .eq v100_r0 c50_i32_94_r0
  let c0_i32_95_r0 : BitVec 32 := 0#32
  let v102_r0 : BitVec 32 := Scalar.select v101_r0 c0_i32_95_r0 v100_r0
  let c1_i32_97_r0 : BitVec 32 := 1#32
  let v104_r0 : BitVec 32 := Scalar.addi v102_r0 c1_i32_97_r0
  let v105_r0 : BitVec 32 := Scalar.select true_98_r0 v104_r0 v102_r0
  let c50_i32_99_r0 : BitVec 32 := 50#32
  let v106_r0 : BitVec 1 := Scalar.cmpi .eq v105_r0 c50_i32_99_r0
  let c0_i32_100_r0 : BitVec 32 := 0#32
  let v107_r0 : BitVec 32 := Scalar.select v106_r0 c0_i32_100_r0 v105_r0
  let c0_i32_101_r0 : BitVec 32 := 0#32
  let v108_r0 : BitVec 32 := Scalar.addi v107_r0 c0_i32_101_r0
  let true_103_r0 : BitVec 1 := 1#1
  let c1_i32_102_r0 : BitVec 32 := 1#32
  let v109_r0 : BitVec 32 := Scalar.addi v107_r0 c1_i32_102_r0
  let v110_r0 : BitVec 32 := Scalar.select true_103_r0 v109_r0 v107_r0
  let c50_i32_104_r0 : BitVec 32 := 50#32
  let v111_r0 : BitVec 1 := Scalar.cmpi .eq v110_r0 c50_i32_104_r0
  let c0_i32_105_r0 : BitVec 32 := 0#32
  let v112_r0 : BitVec 32 := Scalar.select v111_r0 c0_i32_105_r0 v110_r0
  let c0_i32_106_r0 : BitVec 32 := 0#32
  let v113_r0 : BitVec 32 := Scalar.addi v112_r0 c0_i32_106_r0
  let v119_r0 : BitVec 1 := Scalar.cmpi .ne v108_r0 v113_r0
  let c0_i32_47_r0 : BitVec 32 := 0#32
  let c1_i32_49_r0 : BitVec 32 := 1#32
  let arg5_r0 : BitVec 32 := Scf.iv c0_i32_47_r0 c1_i32_49_r0 k0_t1
  let c47_i32_r0 : BitVec 32 := 47#32
  let v120_r0 : BitVec 1 := Scalar.cmpi .sge arg5_r0 c47_i32_r0
  let true_112_r0 : BitVec 1 := 1#1
  let v121_r0 : BitVec 1 := Scalar.xori v120_r0 true_112_r0
  let v122_r0 : BitVec 1 := Scalar.andi v119_r0 v121_r0
  let true_113_r0 : BitVec 1 := 1#1
  let v123_r0 : BitVec 1 := Scalar.andi v122_r0 true_113_r0
  let v124_r0 : BitVec 32 := Scalar.extui v123_r0
  let c0_i32_114_r0 : BitVec 32 := 0#32
  let v125_r0 : BitVec 1 := Scalar.cmpi .ne v124_r0 c0_i32_114_r0
  v125_r0

def k0_off10 (arg6_r0 : BitVec 32) : Fin 3 → Nat :=
  let c4_i32_148_r0 : BitVec 32 := 4#32
  let v190_r0 : BitVec 32 := Scalar.remui arg6_r0 c4_i32_148_r0
  let c0_i32_150_r0 : BitVec 32 := 0#32
  let c0_i32_151_r0 : BitVec 32 := 0#32
  ![v190_r0.toNat, 0, 0]
def k0_off11 (arg10_r0 : BitVec 32) : Fin 2 → Nat :=
  let c200_i32_149_r0 : BitVec 32 := 200#32
  let true_103_r0 : BitVec 1 := 1#1
  let true_98_r0 : BitVec 1 := 1#1
  let true_93_r0 : BitVec 1 := 1#1
  let c1_i32_92_r0 : BitVec 32 := 1#32
  let v99_r0 : BitVec 32 := Scalar.addi arg10_r0 c1_i32_92_r0
  let v100_r0 : BitVec 32 := Scalar.select true_93_r0 v99_r0 arg10_r0
  let c50_i32_94_r0 : BitVec 32 := 50#32
  let v101_r0 : BitVec 1 := Scalar.cmpi .eq v100_r0 c50_i32_94_r0
  let c0_i32_95_r0 : BitVec 32 := 0#32
  let v102_r0 : BitVec 32 := Scalar.select v101_r0 c0_i32_95_r0 v100_r0
  let c1_i32_97_r0 : BitVec 32 := 1#32
  let v104_r0 : BitVec 32 := Scalar.addi v102_r0 c1_i32_97_r0
  let v105_r0 : BitVec 32 := Scalar.select true_98_r0 v104_r0 v102_r0
  let c50_i32_99_r0 : BitVec 32 := 50#32
  let v106_r0 : BitVec 1 := Scalar.cmpi .eq v105_r0 c50_i32_99_r0
  let c0_i32_100_r0 : BitVec 32 := 0#32
  let v107_r0 : BitVec 32 := Scalar.select v106_r0 c0_i32_100_r0 v105_r0
  let c1_i32_102_r0 : BitVec 32 := 1#32
  let v109_r0 : BitVec 32 := Scalar.addi v107_r0 c1_i32_102_r0
  let v110_r0 : BitVec 32 := Scalar.select true_103_r0 v109_r0 v107_r0
  let c50_i32_104_r0 : BitVec 32 := 50#32
  let v111_r0 : BitVec 1 := Scalar.cmpi .eq v110_r0 c50_i32_104_r0
  let c0_i32_105_r0 : BitVec 32 := 0#32
  let v112_r0 : BitVec 32 := Scalar.select v111_r0 c0_i32_105_r0 v110_r0
  let c0_i32_106_r0 : BitVec 32 := 0#32
  let v113_r0 : BitVec 32 := Scalar.addi v112_r0 c0_i32_106_r0
  let v191_r0 : BitVec 32 := Scalar.muli c200_i32_149_r0 v113_r0
  let c0_i32_152_r0 : BitVec 32 := 0#32
  ![v191_r0.toNat, 0]
def k0_off12 (arg7_r0 : BitVec 32) : Fin 1 → Nat :=
  let c4_i32_149_r0 : BitVec 32 := 4#32
  let v191_r0 : BitVec 32 := Scalar.remui arg7_r0 c4_i32_149_r0
  ![v191_r0.toNat]
def k0_cond4 (k0_t1 : Fin k0_t1_loop.trips) (arg10_r0 : BitVec 32) : BitVec 1 :=
  let c0_i32_86_r0 : BitVec 32 := 0#32
  let v93_r0 : BitVec 32 := Scalar.addi arg10_r0 c0_i32_86_r0
  let true_88_r0 : BitVec 1 := 1#1
  let c1_i32_87_r0 : BitVec 32 := 1#32
  let v94_r0 : BitVec 32 := Scalar.subi arg10_r0 c1_i32_87_r0
  let v95_r0 : BitVec 32 := Scalar.select true_88_r0 v94_r0 arg10_r0
  let c_m1_i32_89_r0 : BitVec 32 := 4294967295#32
  let v96_r0 : BitVec 1 := Scalar.cmpi .eq v95_r0 c_m1_i32_89_r0
  let c49_i32_90_r0 : BitVec 32 := 49#32
  let v97_r0 : BitVec 32 := Scalar.select v96_r0 c49_i32_90_r0 v95_r0
  let c0_i32_91_r0 : BitVec 32 := 0#32
  let v98_r0 : BitVec 32 := Scalar.addi v97_r0 c0_i32_91_r0
  let v133_r0 : BitVec 1 := Scalar.cmpi .ne v93_r0 v98_r0
  let c0_i32_47_r0 : BitVec 32 := 0#32
  let c1_i32_49_r0 : BitVec 32 := 1#32
  let arg5_r0 : BitVec 32 := Scf.iv c0_i32_47_r0 c1_i32_49_r0 k0_t1
  let c0_i32_84_r0 : BitVec 32 := 0#32
  let v91_r0 : BitVec 1 := Scalar.cmpi .eq arg5_r0 c0_i32_84_r0
  let v134_r0 : BitVec 1 := Scalar.ori v133_r0 v91_r0
  let c0_i32_119_r0 : BitVec 32 := 0#32
  let v135_r0 : BitVec 1 := Scalar.cmpi .sge arg5_r0 c0_i32_119_r0
  let v136_r0 : BitVec 1 := Scalar.andi v134_r0 v135_r0
  let v137_r0 : BitVec 32 := Scalar.extui v136_r0
  let c0_i32_120_r0 : BitVec 32 := 0#32
  let v138_r0 : BitVec 1 := Scalar.cmpi .ne v137_r0 c0_i32_120_r0
  v138_r0

def k0_off13 (arg7_r0 : BitVec 32) : Fin 3 → Nat :=
  let c4_i32_149_r0 : BitVec 32 := 4#32
  let v191_r0 : BitVec 32 := Scalar.remui arg7_r0 c4_i32_149_r0
  let c0_i32_150_r0 : BitVec 32 := 0#32
  let c0_i32_151_r0 : BitVec 32 := 0#32
  ![v191_r0.toNat, 0, 0]
def k0_off14 (arg10_r0 : BitVec 32) : Fin 2 → Nat :=
  let c200_i32_148_r0 : BitVec 32 := 200#32
  let c0_i32_86_r0 : BitVec 32 := 0#32
  let v93_r0 : BitVec 32 := Scalar.addi arg10_r0 c0_i32_86_r0
  let v190_r0 : BitVec 32 := Scalar.muli c200_i32_148_r0 v93_r0
  let c0_i32_152_r0 : BitVec 32 := 0#32
  ![v190_r0.toNat, 0]
def k0_off15 (arg7_r0 : BitVec 32) : Fin 3 → Nat :=
  let c4_i32_123_r0 : BitVec 32 := 4#32
  let v145_r0 : BitVec 32 := Scalar.remui arg7_r0 c4_i32_123_r0
  let v147_r0 : Index := Scalar.indexCast v145_r0
  let c0_125_r0 : Index := 0#32
  let c0_126_r0 : Index := 0#32
  ![v147_r0.toNat, 0, 0]

def k0_chk2 (arg7_r0 : BitVec 32) : Prop :=
  (∀ a, (k0_off15 arg7_r0) a + S1x200x10000.size a ≤ S4x200x10000.size a)
theorem k0_off15_inb : ∀ (arg7_r0 : BitVec 32) (k0_hw2 : k0_chk2 arg7_r0), ∀ a, (k0_off15 arg7_r0) a + S1x200x10000.size a ≤ S4x200x10000.size a := fun arg7_r0 k0_hw2 => k0_hw2

def k0_off16 (arg8_r0 : BitVec 32) : Fin 3 → Nat :=
  let c2_i32_124_r0 : BitVec 32 := 2#32
  let v146_r0 : BitVec 32 := Scalar.remui arg8_r0 c2_i32_124_r0
  let v152_r0 : Index := Scalar.indexCast v146_r0
  let c0_130_r0 : Index := 0#32
  let c0_131_r0 : Index := 0#32
  ![v152_r0.toNat, 0, 0]

def k0_chk3 (arg8_r0 : BitVec 32) : Prop :=
  (∀ a, (k0_off16 arg8_r0) a + S1x200x128.size a ≤ S2x200x128.size a)
theorem k0_off16_inb : ∀ (arg8_r0 : BitVec 32) (k0_hw3 : k0_chk3 arg8_r0), ∀ a, (k0_off16 arg8_r0) a + S1x200x128.size a ≤ S2x200x128.size a := fun arg8_r0 k0_hw3 => k0_hw3

def k0_off17 (arg8_r0 : BitVec 32) : Fin 1 → Nat :=
  let c2_i32_148_r0 : BitVec 32 := 2#32
  let v190_r0 : BitVec 32 := Scalar.remui arg8_r0 c2_i32_148_r0
  ![v190_r0.toNat]
def k0_cond7 (k0_t1 : Fin k0_t1_loop.trips) (arg10_r0 : BitVec 32) : BitVec 1 :=
  let c0_i32_86_r0 : BitVec 32 := 0#32
  let v93_r0 : BitVec 32 := Scalar.addi arg10_r0 c0_i32_86_r0
  let true_93_r0 : BitVec 1 := 1#1
  let c1_i32_92_r0 : BitVec 32 := 1#32
  let v99_r0 : BitVec 32 := Scalar.addi arg10_r0 c1_i32_92_r0
  let v100_r0 : BitVec 32 := Scalar.select true_93_r0 v99_r0 arg10_r0
  let c50_i32_94_r0 : BitVec 32 := 50#32
  let v101_r0 : BitVec 1 := Scalar.cmpi .eq v100_r0 c50_i32_94_r0
  let c0_i32_95_r0 : BitVec 32 := 0#32
  let v102_r0 : BitVec 32 := Scalar.select v101_r0 c0_i32_95_r0 v100_r0
  let c0_i32_96_r0 : BitVec 32 := 0#32
  let v103_r0 : BitVec 32 := Scalar.addi v102_r0 c0_i32_96_r0
  let v161_r0 : BitVec 1 := Scalar.cmpi .ne v93_r0 v103_r0
  let c0_i32_47_r0 : BitVec 32 := 0#32
  let c1_i32_49_r0 : BitVec 32 := 1#32
  let arg5_r0 : BitVec 32 := Scf.iv c0_i32_47_r0 c1_i32_49_r0 k0_t1
  let c49_i32_85_r0 : BitVec 32 := 49#32
  let v92_r0 : BitVec 1 := Scalar.cmpi .eq arg5_r0 c49_i32_85_r0
  let v162_r0 : BitVec 1 := Scalar.ori v161_r0 v92_r0
  let v163_r0 : BitVec 32 := Scalar.extui v162_r0
  let c0_i32_133_r0 : BitVec 32 := 0#32
  let v164_r0 : BitVec 1 := Scalar.cmpi .ne v163_r0 c0_i32_133_r0
  v164_r0

def k0_off18 (arg10_r0 : BitVec 32) : Fin 2 → Nat :=
  let c200_i32_149_r0 : BitVec 32 := 200#32
  let c0_i32_86_r0 : BitVec 32 := 0#32
  let v93_r0 : BitVec 32 := Scalar.addi arg10_r0 c0_i32_86_r0
  let v191_r0 : BitVec 32 := Scalar.muli c200_i32_149_r0 v93_r0
  let c0_i32_150_r0 : BitVec 32 := 0#32
  ![v191_r0.toNat, 0]
def k0_off19 (arg8_r0 : BitVec 32) : Fin 3 → Nat :=
  let c2_i32_148_r0 : BitVec 32 := 2#32
  let v190_r0 : BitVec 32 := Scalar.remui arg8_r0 c2_i32_148_r0
  let c0_i32_151_r0 : BitVec 32 := 0#32
  let c0_i32_152_r0 : BitVec 32 := 0#32
  ![v190_r0.toNat, 0, 0]
def k0_off20 (arg9_r0 : BitVec 32) : Fin 1 → Nat :=
  let c2_i32_148_r0 : BitVec 32 := 2#32
  let v190_r0 : BitVec 32 := Scalar.remui arg9_r0 c2_i32_148_r0
  ![v190_r0.toNat]
def k0_cond9 (k0_t1 : Fin k0_t1_loop.trips) (arg10_r0 : BitVec 32) : BitVec 1 :=
  let c0_i32_86_r0 : BitVec 32 := 0#32
  let v93_r0 : BitVec 32 := Scalar.addi arg10_r0 c0_i32_86_r0
  let true_88_r0 : BitVec 1 := 1#1
  let c1_i32_87_r0 : BitVec 32 := 1#32
  let v94_r0 : BitVec 32 := Scalar.subi arg10_r0 c1_i32_87_r0
  let v95_r0 : BitVec 32 := Scalar.select true_88_r0 v94_r0 arg10_r0
  let c_m1_i32_89_r0 : BitVec 32 := 4294967295#32
  let v96_r0 : BitVec 1 := Scalar.cmpi .eq v95_r0 c_m1_i32_89_r0
  let c49_i32_90_r0 : BitVec 32 := 49#32
  let v97_r0 : BitVec 32 := Scalar.select v96_r0 c49_i32_90_r0 v95_r0
  let c0_i32_91_r0 : BitVec 32 := 0#32
  let v98_r0 : BitVec 32 := Scalar.addi v97_r0 c0_i32_91_r0
  let v174_r0 : BitVec 1 := Scalar.cmpi .ne v93_r0 v98_r0
  let c0_i32_47_r0 : BitVec 32 := 0#32
  let c1_i32_49_r0 : BitVec 32 := 1#32
  let arg5_r0 : BitVec 32 := Scf.iv c0_i32_47_r0 c1_i32_49_r0 k0_t1
  let c0_i32_84_r0 : BitVec 32 := 0#32
  let v91_r0 : BitVec 1 := Scalar.cmpi .eq arg5_r0 c0_i32_84_r0
  let true_139_r0 : BitVec 1 := 1#1
  let v175_r0 : BitVec 1 := Scalar.xori v91_r0 true_139_r0
  let v176_r0 : BitVec 1 := Scalar.andi v174_r0 v175_r0
  let v177_r0 : BitVec 32 := Scalar.extui v176_r0
  let c0_i32_140_r0 : BitVec 32 := 0#32
  let v178_r0 : BitVec 1 := Scalar.cmpi .ne v177_r0 c0_i32_140_r0
  v178_r0

def k0_off21 (arg10_r0 : BitVec 32) : Fin 2 → Nat :=
  let c200_i32_149_r0 : BitVec 32 := 200#32
  let true_88_r0 : BitVec 1 := 1#1
  let c1_i32_87_r0 : BitVec 32 := 1#32
  let v94_r0 : BitVec 32 := Scalar.subi arg10_r0 c1_i32_87_r0
  let v95_r0 : BitVec 32 := Scalar.select true_88_r0 v94_r0 arg10_r0
  let c_m1_i32_89_r0 : BitVec 32 := 4294967295#32
  let v96_r0 : BitVec 1 := Scalar.cmpi .eq v95_r0 c_m1_i32_89_r0
  let c49_i32_90_r0 : BitVec 32 := 49#32
  let v97_r0 : BitVec 32 := Scalar.select v96_r0 c49_i32_90_r0 v95_r0
  let c0_i32_91_r0 : BitVec 32 := 0#32
  let v98_r0 : BitVec 32 := Scalar.addi v97_r0 c0_i32_91_r0
  let v191_r0 : BitVec 32 := Scalar.muli c200_i32_149_r0 v98_r0
  let c0_i32_150_r0 : BitVec 32 := 0#32
  ![v191_r0.toNat, 0]
def k0_off22 (arg9_r0 : BitVec 32) : Fin 3 → Nat :=
  let c2_i32_148_r0 : BitVec 32 := 2#32
  let v190_r0 : BitVec 32 := Scalar.remui arg9_r0 c2_i32_148_r0
  let c0_i32_151_r0 : BitVec 32 := 0#32
  let c0_i32_152_r0 : BitVec 32 := 0#32
  ![v190_r0.toNat, 0, 0]

def k0_chk1 (k0_t1 : Fin k0_t1_loop.trips) (arg6_r0 : BitVec 32) (arg7_r0 : BitVec 32) (arg8_r0 : BitVec 32) (arg9_r0 : BitVec 32) (arg10_r0 : BitVec 32) : Prop :=
  (∀ (k0_h3 : k0_cond3 k0_t1 arg10_r0 = 1#1), ∀ a, (k0_off9 arg6_r0) a + S1.size a ≤ S4.size a) ∧
  (∀ (k0_h3 : k0_cond3 k0_t1 arg10_r0 = 1#1), ∀ a, (k0_off10 arg6_r0) a + S1x200x10000.size a ≤ S4x200x10000.size a) ∧
  (∀ (k0_h3 : k0_cond3 k0_t1 arg10_r0 = 1#1), ∀ a, (k0_off11 arg10_r0) a + S200x10000.size a ≤ S10000x10000.size a) ∧
  (∀ (k0_h4 : k0_cond4 k0_t1 arg10_r0 = 1#1), ∀ a, (k0_off12 arg7_r0) a + S1.size a ≤ S4.size a) ∧
  (∀ (k0_h4 : k0_cond4 k0_t1 arg10_r0 = 1#1), ∀ a, (k0_off13 arg7_r0) a + S1x200x10000.size a ≤ S4x200x10000.size a) ∧
  (∀ (k0_h4 : k0_cond4 k0_t1 arg10_r0 = 1#1), ∀ a, (k0_off14 arg10_r0) a + S200x10000.size a ≤ S10000x10000.size a) ∧
  (∀ (k0_h7 : k0_cond7 k0_t1 arg10_r0 = 1#1), ∀ a, (k0_off17 arg8_r0) a + S1.size a ≤ S2.size a) ∧
  (∀ (k0_h7 : k0_cond7 k0_t1 arg10_r0 = 1#1), ∀ a, (k0_off18 arg10_r0) a + S200x128.size a ≤ S10000x128.size a) ∧
  (∀ (k0_h7 : k0_cond7 k0_t1 arg10_r0 = 1#1), ∀ a, (k0_off19 arg8_r0) a + S1x200x128.size a ≤ S2x200x128.size a) ∧
  (∀ (k0_h9 : k0_cond9 k0_t1 arg10_r0 = 1#1), ∀ a, (k0_off20 arg9_r0) a + S1.size a ≤ S2.size a) ∧
  (∀ (k0_h9 : k0_cond9 k0_t1 arg10_r0 = 1#1), ∀ a, (k0_off21 arg10_r0) a + S200x128.size a ≤ S10000x128.size a) ∧
  (∀ (k0_h9 : k0_cond9 k0_t1 arg10_r0 = 1#1), ∀ a, (k0_off22 arg9_r0) a + S1x200x128.size a ≤ S2x200x128.size a)
theorem k0_off9_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h3 : k0_cond3 k0_t1 arg10_r0 = 1#1), ∀ a, (k0_off9 arg6_r0) a + S1.size a ≤ S4.size a := fun k0_t1 arg6_r0 arg7_r0 arg8_r0 arg9_r0 arg10_r0 k0_hw1 k0_h3 => k0_hw1.1 k0_h3
theorem k0_off10_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h3 : k0_cond3 k0_t1 arg10_r0 = 1#1), ∀ a, (k0_off10 arg6_r0) a + S1x200x10000.size a ≤ S4x200x10000.size a := fun k0_t1 arg6_r0 arg7_r0 arg8_r0 arg9_r0 arg10_r0 k0_hw1 k0_h3 => k0_hw1.2.1 k0_h3
theorem k0_off11_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h3 : k0_cond3 k0_t1 arg10_r0 = 1#1), ∀ a, (k0_off11 arg10_r0) a + S200x10000.size a ≤ S10000x10000.size a := fun k0_t1 arg6_r0 arg7_r0 arg8_r0 arg9_r0 arg10_r0 k0_hw1 k0_h3 => k0_hw1.2.2.1 k0_h3
theorem k0_off12_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h4 : k0_cond4 k0_t1 arg10_r0 = 1#1), ∀ a, (k0_off12 arg7_r0) a + S1.size a ≤ S4.size a := fun k0_t1 arg6_r0 arg7_r0 arg8_r0 arg9_r0 arg10_r0 k0_hw1 k0_h4 => k0_hw1.2.2.2.1 k0_h4
theorem k0_off13_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h4 : k0_cond4 k0_t1 arg10_r0 = 1#1), ∀ a, (k0_off13 arg7_r0) a + S1x200x10000.size a ≤ S4x200x10000.size a := fun k0_t1 arg6_r0 arg7_r0 arg8_r0 arg9_r0 arg10_r0 k0_hw1 k0_h4 => k0_hw1.2.2.2.2.1 k0_h4
theorem k0_off14_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h4 : k0_cond4 k0_t1 arg10_r0 = 1#1), ∀ a, (k0_off14 arg10_r0) a + S200x10000.size a ≤ S10000x10000.size a := fun k0_t1 arg6_r0 arg7_r0 arg8_r0 arg9_r0 arg10_r0 k0_hw1 k0_h4 => k0_hw1.2.2.2.2.2.1 k0_h4
theorem k0_off17_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h7 : k0_cond7 k0_t1 arg10_r0 = 1#1), ∀ a, (k0_off17 arg8_r0) a + S1.size a ≤ S2.size a := fun k0_t1 arg6_r0 arg7_r0 arg8_r0 arg9_r0 arg10_r0 k0_hw1 k0_h7 => k0_hw1.2.2.2.2.2.2.1 k0_h7
theorem k0_off18_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h7 : k0_cond7 k0_t1 arg10_r0 = 1#1), ∀ a, (k0_off18 arg10_r0) a + S200x128.size a ≤ S10000x128.size a := fun k0_t1 arg6_r0 arg7_r0 arg8_r0 arg9_r0 arg10_r0 k0_hw1 k0_h7 => k0_hw1.2.2.2.2.2.2.2.1 k0_h7
theorem k0_off19_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h7 : k0_cond7 k0_t1 arg10_r0 = 1#1), ∀ a, (k0_off19 arg8_r0) a + S1x200x128.size a ≤ S2x200x128.size a := fun k0_t1 arg6_r0 arg7_r0 arg8_r0 arg9_r0 arg10_r0 k0_hw1 k0_h7 => k0_hw1.2.2.2.2.2.2.2.2.1 k0_h7
theorem k0_off20_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h9 : k0_cond9 k0_t1 arg10_r0 = 1#1), ∀ a, (k0_off20 arg9_r0) a + S1.size a ≤ S2.size a := fun k0_t1 arg6_r0 arg7_r0 arg8_r0 arg9_r0 arg10_r0 k0_hw1 k0_h9 => k0_hw1.2.2.2.2.2.2.2.2.2.1 k0_h9
theorem k0_off21_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h9 : k0_cond9 k0_t1 arg10_r0 = 1#1), ∀ a, (k0_off21 arg10_r0) a + S200x128.size a ≤ S10000x128.size a := fun k0_t1 arg6_r0 arg7_r0 arg8_r0 arg9_r0 arg10_r0 k0_hw1 k0_h9 => k0_hw1.2.2.2.2.2.2.2.2.2.2.1 k0_h9
theorem k0_off22_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h9 : k0_cond9 k0_t1 arg10_r0 = 1#1), ∀ a, (k0_off22 arg9_r0) a + S1x200x128.size a ≤ S2x200x128.size a := fun k0_t1 arg6_r0 arg7_r0 arg8_r0 arg9_r0 arg10_r0 k0_hw1 k0_h9 => k0_hw1.2.2.2.2.2.2.2.2.2.2.2 k0_h9

def k0_off23 (v53_3_r0 : BitVec 32) : Fin 1 → Nat :=
  let c2_i32_r0 : BitVec 32 := 2#32
  let v84_r0 : BitVec 32 := Scalar.remui v53_3_r0 c2_i32_r0
  ![v84_r0.toNat]

def k0_off24 (v53_4_r0 : BitVec 32) : Fin 2 → Nat :=
  let c200_i32_r0 : BitVec 32 := 200#32
  let true_52_r0 : BitVec 1 := 1#1
  let c1_i32_51_r0 : BitVec 32 := 1#32
  let v54_r0 : BitVec 32 := Scalar.subi v53_4_r0 c1_i32_51_r0
  let v55_r0 : BitVec 32 := Scalar.select true_52_r0 v54_r0 v53_4_r0
  let c_m1_i32_53_r0 : BitVec 32 := 4294967295#32
  let v56_r0 : BitVec 1 := Scalar.cmpi .eq v55_r0 c_m1_i32_53_r0
  let c49_i32_54_r0 : BitVec 32 := 49#32
  let v57_r0 : BitVec 32 := Scalar.select v56_r0 c49_i32_54_r0 v55_r0
  let c0_i32_55_r0 : BitVec 32 := 0#32
  let v58_r0 : BitVec 32 := Scalar.addi v57_r0 c0_i32_55_r0
  let v85_r0 : BitVec 32 := Scalar.muli c200_i32_r0 v58_r0
  let c0_i32_81_r0 : BitVec 32 := 0#32
  ![v85_r0.toNat, 0]

def k0_chk5 (v53_4_r0 : BitVec 32) : Prop :=
  (∀ a, (k0_off24 v53_4_r0) a + S200x128.size a ≤ S10000x128.size a)
theorem k0_off24_inb : ∀ (v53_4_r0 : BitVec 32) (k0_hw5 : k0_chk5 v53_4_r0), ∀ a, (k0_off24 v53_4_r0) a + S200x128.size a ≤ S10000x128.size a := fun v53_4_r0 k0_hw5 => k0_hw5

def k0_off25 (v53_3_r0 : BitVec 32) : Fin 3 → Nat :=
  let c2_i32_r0 : BitVec 32 := 2#32
  let v84_r0 : BitVec 32 := Scalar.remui v53_3_r0 c2_i32_r0
  let c0_i32_82_r0 : BitVec 32 := 0#32
  let c0_i32_83_r0 : BitVec 32 := 0#32
  ![v84_r0.toNat, 0, 0]

def k0_chk4 (v53_3_r0 : BitVec 32) : Prop :=
  (∀ a, (k0_off23 v53_3_r0) a + S1.size a ≤ S2.size a) ∧
  (∀ a, (k0_off25 v53_3_r0) a + S1x200x128.size a ≤ S2x200x128.size a)
theorem k0_off23_inb : ∀ (v53_3_r0 : BitVec 32) (k0_hw4 : k0_chk4 v53_3_r0), ∀ a, (k0_off23 v53_3_r0) a + S1.size a ≤ S2.size a := fun v53_3_r0 k0_hw4 => k0_hw4.1
theorem k0_off25_inb : ∀ (v53_3_r0 : BitVec 32) (k0_hw4 : k0_chk4 v53_3_r0), ∀ a, (k0_off25 v53_3_r0) a + S1x200x128.size a ≤ S2x200x128.size a := fun v53_3_r0 k0_hw4 => k0_hw4.2

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Names.lean ====
/-
  Names for the pieces the kernel moves, and its word arithmetic in closed form.

  The pipeline cuts `adj` and the result into 50 blocks of 200 rows. A block of `adj` travels through one of four
  slots of a read buffer, a block of the result through one of two slots of a write buffer; each slot has a DMA
  semaphore of its own. This module names blocks, slots and semaphores by their numbers, and proves that the offsets
  the kernel computes from the five words its loop carries are those numbers.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Ring.Trips
public import Idealize.ShloMosaic.Lib.Affine
public import Idealize.ShloMosaic.Lib.Tactic

@[expose] public section

noncomputable section

namespace Cert.Proof.Spmm

open Cert.KernelIdeal Cert.KernelIdeal.Gen
open Idealize.ShloMosaic
open Idealize.ShloMosaic.TcCoe Idealize.ShloMosaic.Tactic

/-! ## Blocks, slots, semaphores -/

/-- `adj` in HBM, the read buffer, the result in HBM, the write buffer, the buffer holding `input @ weight`. -/
abbrev adjM : Memref sig .tc .hbm S10000x10000 .f32 := Memref.whole main_arg1
abbrev inbM : Memref sig .tc .vmem S4x200x10000 .f32 := Memref.whole cc0_scoped0
abbrev resM : Memref sig .tc .hbm S10000x128 .f32 := Memref.whole main_v0
abbrev oubM : Memref sig .tc .vmem S2x200x128 .f32 := Memref.whole cc0_scoped2
abbrev supM : Memref sig .tc .vmem S10000x128 .f32 := Memref.whole cc0_scratch0

abbrev rowOff (b : Fin 50) : Fin 2 → Nat := ![200 * b.val, 0]
abbrev inOff (s : Fin 4) : Fin 3 → Nat := ![s.val, 0, 0]
abbrev outOff (s : Fin 2) : Fin 3 → Nat := ![s.val, 0, 0]
abbrev inCell (s : Fin 4) : Fin 1 → Nat := ![s.val]
abbrev outCell (s : Fin 2) : Fin 1 → Nat := ![s.val]

theorem rowOff_adj (b : Fin 50) : ∀ a, rowOff b a + S200x10000.size a ≤ S10000x10000.size a := by
  have := b.isLt; intro a; fin_cases a
  · show 200 * b.val + 200 ≤ 10000; omega
  · show 0 + 10000 ≤ 10000; omega
theorem rowOff_res (b : Fin 50) : ∀ a, rowOff b a + S200x128.size a ≤ S10000x128.size a := by
  have := b.isLt; intro a; fin_cases a
  · show 200 * b.val + 200 ≤ 10000; omega
  · show 0 + 128 ≤ 128; omega
theorem inOff_inb (s : Fin 4) : ∀ a, inOff s a + S1x200x10000.size a ≤ S4x200x10000.size a := by
  have := s.isLt; intro a; fin_cases a
  · show s.val + 1 ≤ 4; omega
  · show 0 + 200 ≤ 200; omega
  · show 0 + 10000 ≤ 10000; omega
theorem outOff_inb (s : Fin 2) : ∀ a, outOff s a + S1x200x128.size a ≤ S2x200x128.size a := by
  have := s.isLt; intro a; fin_cases a
  · show s.val + 1 ≤ 2; omega
  · show 0 + 200 ≤ 200; omega
  · show 0 + 128 ≤ 128; omega
theorem inCell_inb (s : Fin 4) : ∀ a, inCell s a + S1.size a ≤ S4.size a := by
  have := s.isLt; intro a; fin_cases a; show s.val + 1 ≤ 4; omega
theorem outCell_inb (s : Fin 2) : ∀ a, outCell s a + S1.size a ≤ S2.size a := by
  have := s.isLt; intro a; fin_cases a; show s.val + 1 ≤ 2; omega

/-- Rows `200 b … 200 b + 199` of `adj`; -/
def ablk (b : Fin 50) : Memref sig .tc .hbm S200x10000 .f32 :=
  adjM.slice (Rect.unit (s := S10000x10000) (rowOff b) S200x10000.size (rowOff_adj b)) (fun _ => rfl)
/-- the same rows of the result. -/
def oblk (b : Fin 50) : Memref sig .tc .hbm S200x128 .f32 :=
  resM.slice (Rect.unit (s := S10000x128) (rowOff b) S200x128.size (rowOff_res b)) (fun _ => rfl)
/-- Slot `s` of the read buffer, and its semaphore. -/
def islot (s : Fin 4) : Memref sig .tc .vmem S200x10000 .f32 :=
  (inbM.slice (Rect.unit (s := S4x200x10000) (inOff s) S1x200x10000.size (inOff_inb s)) (fun _ => rfl)).squeeze S200x10000 squeezes_S1x200x10000_S200x10000
def isem (s : Fin 4) : DmaSems sig S_ := (cc0_scoped1.slice (Rect.unit (s := S4) (inCell s) S1.size (inCell_inb s))).squeeze S_ squeezes_S1_S_
/-- Slot `s` of the write buffer, and its semaphore. -/
def oslot (s : Fin 2) : Memref sig .tc .vmem S200x128 .f32 :=
  (oubM.slice (Rect.unit (s := S2x200x128) (outOff s) S1x200x128.size (outOff_inb s)) (fun _ => rfl)).squeeze S200x128 squeezes_S1x200x128_S200x128
def osem1 (s : Fin 2) : DmaSems sig S_ := (cc0_scoped3.slice (Rect.unit (s := S2) (outCell s) S1.size (outCell_inb s))).squeeze S_ squeezes_S1_S_

instance (b : Fin 50) : ClosedOff (rowOff b) := ⟨rowOff b, rfl⟩
instance (s : Fin 4) : ClosedOff (inOff s) := ⟨inOff s, rfl⟩
instance (s : Fin 2) : ClosedOff (outOff s) := ⟨outOff s, rfl⟩

/-! ## The five words the loop carries before trip `k` -/

/-- Blocks of `adj` started so far (and so, modulo 4, the next slot to fill); -/
def w6 (k : ℕ) : BitVec 32 := BitVec.ofNat 32 (min (k + 3) 50)
/-- blocks of `adj` used, -/
def w7 (k : ℕ) : BitVec 32 := BitVec.ofNat 32 k
/-- blocks of the result started, -/
def w8 (k : ℕ) : BitVec 32 := BitVec.ofNat 32 k
/-- blocks of the result landed, -/
def w9 (k : ℕ) : BitVec 32 := BitVec.ofNat 32 (k - 1)
/-- and the number of the current block (back at 0 after the last). -/
def w10 (k : ℕ) : BitVec 32 := BitVec.ofNat 32 (k % 50)
def carried (k : ℕ) : BitVec 32 × BitVec 32 × BitVec 32 × BitVec 32 × BitVec 32 := (w6 k, w7 k, w8 k, w9 k, w10 k)

theorem trips_eq : k0_t1_loop.trips = 50 := by decide +kernel
theorem trip_lt (k : Fin k0_t1_loop.trips) : k.val < 50 := Nat.lt_of_lt_of_eq k.isLt trips_eq

/-! ### What the kernel computes from them: decided once over the 50 trips -/

section Closed

/-- Moves a decided fact about `Fin 50` to the loop's own trip numbers. -/
theorem of_fifty {P : Fin k0_t1_loop.trips → Prop} (h : ∀ k : Fin 50, P (k.cast trips_eq.symm)) (k : Fin k0_t1_loop.trips) : P k := by
  have := h (k.cast trips_eq); simpa using this

theorem chk1_ok (k : Fin k0_t1_loop.trips) : k0_chk1 k (w6 k) (w7 k) (w8 k) (w9 k) (w10 k) := by
  revert k; decide +kernel
theorem chk2_ok (k : Fin k0_t1_loop.trips) : k0_chk2 (w7 k) := by revert k; decide +kernel
theorem chk3_ok (k : Fin k0_t1_loop.trips) : k0_chk3 (w8 k) := by revert k; decide +kernel
theorem chk4_ok : k0_chk4 (w9 50) := by decide +kernel
theorem chk5_ok : k0_chk5 (w10 50) := by decide +kernel

/-- A trip starts a block of `adj` exactly while one is left; -/
theorem cond3_iff (k : Fin k0_t1_loop.trips) : k0_cond3 k (w10 k) = 1#1 ↔ k.val < 47 := by revert k; decide +kernel
/-- every trip waits for one, and starts a block of the result; -/
theorem cond4_true (k : Fin k0_t1_loop.trips) : k0_cond4 k (w10 k) = 1#1 := by revert k; decide +kernel
theorem cond7_true (k : Fin k0_t1_loop.trips) : k0_cond7 k (w10 k) = 1#1 := by revert k; decide +kernel
/-- every trip but the first waits for the previous block of the result. -/
theorem cond9_iff (k : Fin k0_t1_loop.trips) : k0_cond9 k (w10 k) = 1#1 ↔ k.val ≠ 0 := by revert k; decide +kernel
theorem cond1_true : k0_cond1 = 1#1 := by decide +kernel
theorem cond2_true : k0_cond2 = 1#1 := by decide +kernel

theorem off9_eq (k : Fin k0_t1_loop.trips) (h : k.val < 47) : k0_off9 (w6 k) = inCell (Ring.sl 4 (k.val + 3)) := by
  revert k; decide +kernel
theorem off10_eq (k : Fin k0_t1_loop.trips) (h : k.val < 47) : k0_off10 (w6 k) = inOff (Ring.sl 4 (k.val + 3)) := by
  revert k; decide +kernel
theorem off11_eq (k : Fin k0_t1_loop.trips) (h : k.val < 47) : k0_off11 (w10 k) = rowOff (Ring.bk 50 (k.val + 3)) := by
  revert k; decide +kernel
theorem off12_eq (k : Fin k0_t1_loop.trips) : k0_off12 (w7 k) = inCell (Ring.sl 4 k.val) := by revert k; decide +kernel
theorem off13_eq (k : Fin k0_t1_loop.trips) : k0_off13 (w7 k) = inOff (Ring.sl 4 k.val) := by revert k; decide +kernel
theorem off14_eq (k : Fin k0_t1_loop.trips) : k0_off14 (w10 k) = rowOff (Ring.bk 50 k.val) := by revert k; decide +kernel
theorem off15_eq (k : Fin k0_t1_loop.trips) : k0_off15 (w7 k) = inOff (Ring.sl 4 k.val) := by revert k; decide +kernel
theorem off16_eq (k : Fin k0_t1_loop.trips) : k0_off16 (w8 k) = outOff (Ring.sl 2 k.val) := by revert k; decide +kernel
theorem off17_eq (k : Fin k0_t1_loop.trips) : k0_off17 (w8 k) = outCell (Ring.sl 2 k.val) := by revert k; decide +kernel
theorem off18_eq (k : Fin k0_t1_loop.trips) : k0_off18 (w10 k) = rowOff (Ring.bk 50 k.val) := by revert k; decide +kernel
theorem off19_eq (k : Fin k0_t1_loop.trips) : k0_off19 (w8 k) = outOff (Ring.sl 2 k.val) := by revert k; decide +kernel
theorem off20_eq (k : Fin k0_t1_loop.trips) (h : k.val ≠ 0) : k0_off20 (w9 k) = outCell (Ring.sl 2 (k.val + 1)) := by
  revert k; decide +kernel
theorem off21_eq (k : Fin k0_t1_loop.trips) (h : k.val ≠ 0) : k0_off21 (w10 k) = rowOff (Ring.bk 50 (k.val - 1)) := by
  revert k; decide +kernel
theorem off22_eq (k : Fin k0_t1_loop.trips) (h : k.val ≠ 0) : k0_off22 (w9 k) = outOff (Ring.sl 2 (k.val + 1)) := by
  revert k; decide +kernel
theorem off23_eq : k0_off23 49#32 = outCell 1 := by decide +kernel
theorem off24_eq : k0_off24 0#32 = rowOff 49 := by decide +kernel
theorem off25_eq : k0_off25 49#32 = outOff 1 := by decide +kernel

instance (k : Fin k0_t1_loop.trips) : ClosedOff (k0_off15 (w7 k.val)) := ⟨inOff (Ring.sl 4 k.val), off15_eq k⟩
instance (k : Fin k0_t1_loop.trips) : ClosedOff (k0_off16 (w8 k.val)) := ⟨outOff (Ring.sl 2 k.val), off16_eq k⟩

end Closed

/-! ## The kernel's own slices are the named pieces -/

section Canon

private theorem isem_of {off : Fin 1 → Nat} {s : Fin 4} (e : off = inCell s) (hh) :
    (cc0_scoped1.slice (Rect.unit (s := S4) off S1.size hh)).squeeze S_ squeezes_S1_S_ = isem s :=
  congrArg (fun A : DmaSems sig S1 => A.squeeze S_ squeezes_S1_S_) (SemArray.slice_unit_congr _ e _ _)
private theorem osem_of {off : Fin 1 → Nat} {s : Fin 2} (e : off = outCell s) (hh) :
    (cc0_scoped3.slice (Rect.unit (s := S2) off S1.size hh)).squeeze S_ squeezes_S1_S_ = osem1 s :=
  congrArg (fun A : DmaSems sig S1 => A.squeeze S_ squeezes_S1_S_) (SemArray.slice_unit_congr _ e _ _)
private theorem islot_of {off : Fin 3 → Nat} {s : Fin 4} (e : off = inOff s) (hh hs) :
    (inbM.slice (Rect.unit (s := S4x200x10000) off S1x200x10000.size hh) hs).squeeze S200x10000 squeezes_S1x200x10000_S200x10000 = islot s :=
  congrArg (fun M : Memref sig .tc .vmem S1x200x10000 .f32 => M.squeeze S200x10000 squeezes_S1x200x10000_S200x10000) (Memref.slice_unit_congr _ e _ _ _ _)
private theorem oslot_of {off : Fin 3 → Nat} {s : Fin 2} (e : off = outOff s) (hh hs) :
    (oubM.slice (Rect.unit (s := S2x200x128) off S1x200x128.size hh) hs).squeeze S200x128 squeezes_S1x200x128_S200x128 = oslot s :=
  congrArg (fun M : Memref sig .tc .vmem S1x200x128 .f32 => M.squeeze S200x128 squeezes_S1x200x128_S200x128) (Memref.slice_unit_congr _ e _ _ _ _)
private theorem ablk_of {off : Fin 2 → Nat} {b : Fin 50} (e : off = rowOff b) (hh hs) :
    adjM.slice (Rect.unit (s := S10000x10000) off S200x10000.size hh) hs = ablk b := Memref.slice_unit_congr _ e _ _ _ (fun _ => rfl)
private theorem oblk_of {off : Fin 2 → Nat} {b : Fin 50} (e : off = rowOff b) (hh hs) :
    resM.slice (Rect.unit (s := S10000x128) off S200x128.size hh) hs = oblk b := Memref.slice_unit_congr _ e _ _ _ (fun _ => rfl)

/-- Before the loop: blocks 0, 1, 2 of `adj` into slots 0, 1, 2. -/
@[sl_canon] theorem isem_p0 (hh) : (cc0_scoped1.slice (Rect.unit (s := S4) k0_off1 S1.size hh)).squeeze S_ squeezes_S1_S_ = isem 0 := isem_of (by decide +kernel) _
@[sl_canon] theorem isem_p1 (hh) : (cc0_scoped1.slice (Rect.unit (s := S4) k0_off3 S1.size hh)).squeeze S_ squeezes_S1_S_ = isem 1 := isem_of (by decide +kernel) _
@[sl_canon] theorem isem_p2 (hh) : (cc0_scoped1.slice (Rect.unit (s := S4) k0_off6 S1.size hh)).squeeze S_ squeezes_S1_S_ = isem 2 := isem_of (by decide +kernel) _
@[sl_canon] theorem islot_p0 (hh hs) : (inbM.slice (Rect.unit (s := S4x200x10000) k0_off2 S1x200x10000.size hh) hs).squeeze S200x10000 squeezes_S1x200x10000_S200x10000 = islot 0 := islot_of (by decide +kernel) _ _
@[sl_canon] theorem islot_p1 (hh hs) : (inbM.slice (Rect.unit (s := S4x200x10000) k0_off4 S1x200x10000.size hh) hs).squeeze S200x10000 squeezes_S1x200x10000_S200x10000 = islot 1 := islot_of (by decide +kernel) _ _
@[sl_canon] theorem islot_p2 (hh hs) : (inbM.slice (Rect.unit (s := S4x200x10000) k0_off7 S1x200x10000.size hh) hs).squeeze S200x10000 squeezes_S1x200x10000_S200x10000 = islot 2 := islot_of (by decide +kernel) _ _
@[sl_canon] theorem ablk_p0 (hh hs) : adjM.slice (Rect.unit (s := S10000x10000) ![0, 0] S200x10000.size hh) hs = ablk 0 := ablk_of (by decide +kernel) _ _
@[sl_canon] theorem ablk_p1 (hh hs) : adjM.slice (Rect.unit (s := S10000x10000) k0_off5 S200x10000.size hh) hs = ablk 1 := ablk_of (by decide +kernel) _ _
@[sl_canon] theorem ablk_p2 (hh hs) : adjM.slice (Rect.unit (s := S10000x10000) k0_off8 S200x10000.size hh) hs = ablk 2 := ablk_of (by decide +kernel) _ _

/-- In trip `k`: block `k + 3` of `adj` is started, -/
@[sl_canon] theorem isem_i (k : Fin k0_t1_loop.trips) (h : k.val < 47) (hh) :
    (cc0_scoped1.slice (Rect.unit (s := S4) (k0_off9 (w6 k.val)) S1.size hh)).squeeze S_ squeezes_S1_S_ = isem (Ring.sl 4 (k.val + 3)) := isem_of (off9_eq k h) _
@[sl_canon] theorem islot_i (k : Fin k0_t1_loop.trips) (h : k.val < 47) (hh hs) :
    (inbM.slice (Rect.unit (s := S4x200x10000) (k0_off10 (w6 k.val)) S1x200x10000.size hh) hs).squeeze S200x10000 squeezes_S1x200x10000_S200x10000 = islot (Ring.sl 4 (k.val + 3)) := islot_of (off10_eq k h) _ _
@[sl_canon] theorem ablk_i (k : Fin k0_t1_loop.trips) (h : k.val < 47) (hh hs) :
    adjM.slice (Rect.unit (s := S10000x10000) (k0_off11 (w10 k.val)) S200x10000.size hh) hs = ablk (Ring.bk 50 (k.val + 3)) := ablk_of (off11_eq k h) _ _
/-- block `k` waited for, -/
@[sl_canon] theorem isem_w (k : Fin k0_t1_loop.trips) (hh) :
    (cc0_scoped1.slice (Rect.unit (s := S4) (k0_off12 (w7 k.val)) S1.size hh)).squeeze S_ squeezes_S1_S_ = isem (Ring.sl 4 k.val) := isem_of (off12_eq k) _
@[sl_canon] theorem islot_w (k : Fin k0_t1_loop.trips) (hh hs) :
    (inbM.slice (Rect.unit (s := S4x200x10000) (k0_off13 (w7 k.val)) S1x200x10000.size hh) hs).squeeze S200x10000 squeezes_S1x200x10000_S200x10000 = islot (Ring.sl 4 k.val) := islot_of (off13_eq k) _ _
@[sl_canon] theorem ablk_w (k : Fin k0_t1_loop.trips) (hh hs) :
    adjM.slice (Rect.unit (s := S10000x10000) (k0_off14 (w10 k.val)) S200x10000.size hh) hs = ablk (Ring.bk 50 k.val) := ablk_of (off14_eq k) _ _
/-- block `k` of the result started, -/
@[sl_canon] theorem osem_i (k : Fin k0_t1_loop.trips) (hh) :
    (cc0_scoped3.slice (Rect.unit (s := S2) (k0_off17 (w8 k.val)) S1.size hh)).squeeze S_ squeezes_S1_S_ = osem1 (Ring.sl 2 k.val) := osem_of (off17_eq k) _
@[sl_canon] theorem oslot_i (k : Fin k0_t1_loop.trips) (hh hs) :
    (oubM.slice (Rect.unit (s := S2x200x128) (k0_off19 (w8 k.val)) S1x200x128.size hh) hs).squeeze S200x128 squeezes_S1x200x128_S200x128 = oslot (Ring.sl 2 k.val) := oslot_of (off19_eq k) _ _
@[sl_canon] theorem oblk_i (k : Fin k0_t1_loop.trips) (hh hs) :
    resM.slice (Rect.unit (s := S10000x128) (k0_off18 (w10 k.val)) S200x128.size hh) hs = oblk (Ring.bk 50 k.val) := oblk_of (off18_eq k) _ _
/-- and block `k - 1` of it waited for. -/
@[sl_canon] theorem osem_w (k : Fin k0_t1_loop.trips) (h : k.val ≠ 0) (hh) :
    (cc0_scoped3.slice (Rect.unit (s := S2) (k0_off20 (w9 k.val)) S1.size hh)).squeeze S_ squeezes_S1_S_ = osem1 (Ring.sl 2 (k.val + 1)) := osem_of (off20_eq k h) _
@[sl_canon] theorem oslot_w (k : Fin k0_t1_loop.trips) (h : k.val ≠ 0) (hh hs) :
    (oubM.slice (Rect.unit (s := S2x200x128) (k0_off22 (w9 k.val)) S1x200x128.size hh) hs).squeeze S200x128 squeezes_S1x200x128_S200x128 = oslot (Ring.sl 2 (k.val + 1)) := oslot_of (off22_eq k h) _ _
@[sl_canon] theorem oblk_w (k : Fin k0_t1_loop.trips) (h : k.val ≠ 0) (hh hs) :
    resM.slice (Rect.unit (s := S10000x128) (k0_off21 (w10 k.val)) S200x128.size hh) hs = oblk (Ring.bk 50 (k.val - 1)) := oblk_of (off21_eq k h) _ _

/-- After the loop: the last block of the result waited for. -/
@[sl_canon] theorem osem_e (hh) :
    (cc0_scoped3.slice (Rect.unit (s := S2) (k0_off23 49#32) S1.size hh)).squeeze S_ squeezes_S1_S_ = osem1 1 := osem_of off23_eq _
@[sl_canon] theorem oslot_e (hh hs) :
    (oubM.slice (Rect.unit (s := S2x200x128) (k0_off25 49#32) S1x200x128.size hh) hs).squeeze S200x128 squeezes_S1x200x128_S200x128 = oslot 1 := oslot_of off25_eq _ _
@[sl_canon] theorem oblk_e (hh hs) :
    resM.slice (Rect.unit (s := S10000x128) (k0_off24 0#32) S200x128.size hh) hs = oblk 49 := oblk_of off24_eq _ _

end Canon

end Cert.Proof.Spmm

end
-- ==== Proof.Pieces.lean ====
/-
  What the pipeline owns between trips: blocks at rest in HBM, slots, and slots a transfer is running through.
-/
module

public import proofs.«01_k».proof.Proof.Names

@[expose] public section

noncomputable section

namespace Cert.Proof.Spmm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The launch's own bookkeeping beside the counters the kernel's transfers use. -/
abbrev UU (nD : Nat) (τ : Topo) : Type := UR sig nD τ × Counters
local notation "𝕄" => MT nD τ sig Unit (Elt F) ℕ (UU nD τ) ℕ
abbrev 𝒱₀ : Variants := Variants.none

section Pieces

variable (c : Dev nD)

/-- Contents of `adj`, of the result, of a read slot, of a write slot, of the product buffer. -/
abbrev AdjBuf (F : FTy → Type) (c : Dev nD) := Buf (Elt F) (adjM.view.loc (c : Thread nD τ))
abbrev ResBuf (F : FTy → Type) (c : Dev nD) := Buf (Elt F) (resM.view.loc (c : Thread nD τ))
abbrev InBuf (F : FTy → Type) (c : Dev nD) (s : Fin 4) := Buf (Elt F) ((islot s).view.loc (c : Thread nD τ))
abbrev OutBuf (F : FTy → Type) (c : Dev nD) (s : Fin 2) := Buf (Elt F) ((oslot s).view.loc (c : Thread nD τ))
abbrev SupBuf (F : FTy → Type) (c : Dev nD) := Buf (Elt F) (supM.view.loc (c : Thread nD τ))

/-- A slot's semaphore at zero; -/
abbrev icellP (s : Fin 4) : sProp 𝕄 := semVal ((c : Thread nD τ), SemLoc.dma (isem s).sem) 0
abbrev ocellP (s : Fin 2) : sProp 𝕄 := semVal ((c : Thread nD τ), SemLoc.dma (osem1 s).sem) 0
/-- a slot held at given contents; -/
abbrev islotP (s : Fin 4) (f : InBuf F c s) : sProp 𝕄 := (islot s).view.loc (c : Thread nD τ) ↦[(islot s).view.set]{fullShare} f
abbrev oslotP (s : Fin 2) (f : OutBuf F c s) : sProp 𝕄 := (oslot s).view.loc (c : Thread nD τ) ↦[(oslot s).view.set]{fullShare} f
/-- a block of `adj` at rest, a block of the result at given contents; -/
abbrev homeP (XA : AdjBuf F c) (b : Fin 50) : sProp 𝕄 := (ablk b).view.loc (c : Thread nD τ) ↦[(ablk b).view.set]{fullShare} XA
abbrev resP (b : Fin 50) (f : ResBuf F c) : sProp 𝕄 := (oblk b).view.loc (c : Thread nD τ) ↦[(oblk b).view.set]{fullShare} f
/-- the product buffer. -/
abbrev supP (f : SupBuf F c) : sProp 𝕄 := supM.view.loc (c : Thread nD τ) ↦[supM.view.set]{fullShare} f

/-- Block `b` of `adj`, as a transfer carries it. -/
abbrev adjBlk (XA : AdjBuf F c) (b : Fin 50) : S200x10000.Idx → Elt F .f32 := ReadAs.same.apply ((ablk b).view.read (Elt F) XA)
/-- A read slot after block `b` landed in it. -/
abbrev landed (XA : AdjBuf F c) (s : Fin 4) (b : Fin 50) (f : InBuf F c s) : InBuf F c s :=
  (islot s).view.writes (Elt F) f [⟨Rect.whole S200x10000, adjBlk c XA b⟩]
/-- A transfer of block `b` of `adj` into slot `s`, started over contents `f`. -/
abbrev inFlightP (XA : AdjBuf F c) (s : Fin 4) (b : Fin 50) (f : InBuf F c s) : sProp 𝕄 :=
  Transfers.Flight countersEmb (c : Thread nD τ) (SemLoc.dma (isem s).sem) () 252800 iprop(islotP c s (landed c XA s b f) ∗ homeP c XA b)

/-- A block of the result after a write slot's contents `g` landed in it. -/
abbrev stored (s : Fin 2) (b : Fin 50) (f : ResBuf F c) (g : OutBuf F c s) : ResBuf F c :=
  (oblk b).view.writes (Elt F) f [⟨Rect.whole S200x128, ReadAs.same.apply ((oslot s).view.read (Elt F) g)⟩]
/-- A transfer of write slot `s`, holding `g`, into block `b` of the result. -/
abbrev outFlightP (s : Fin 2) (b : Fin 50) (f : ResBuf F c) (g : OutBuf F c s) : sProp 𝕄 :=
  Transfers.Flight countersEmb (c : Thread nD τ) (SemLoc.dma (osem1 s).sem) () 3200 iprop(resP c b (stored c s b f g) ∗ oslotP c s g)

end Pieces

end Cert.Proof.Spmm

end
-- ==== Proof.Values.lean ====
/-
  What one trip computes: block `b` of `adj` times the product buffer, and the array whose blocks these are.
-/
module

public import proofs.«01_k».proof.Proof.Pieces
public import Idealize.ShloMosaic.Lib.VecWindow
public import Idealize.ShloMosaic.Lib.ValueIdxCore
public import Idealize.ShloMosaic.Lib.Pipeline.Value

@[expose] public section

noncomputable section

namespace Cert.Proof.Spmm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD)

/-- The product buffer, as a trip loads it. -/
abbrev supVec (fs : SupBuf F c) : Vec F S10000x128 .f32 :=
  supM.view.readAt (Elt F) (Rect.unit (s := S10000x128) ![0, 0] S10000x128.size inb_S10000x128_S10000x128_0_0).toLoadRect fs

/-- Block `b` of the result: block `b` of `adj` times the product buffer. -/
def blkVal (XA : AdjBuf F c) (S : Vec F S10000x128 .f32) (b : Fin 50) : FVec F S200x128 .f32 :=
  matmul dot_S200x10000_S10000x128_S200x128_1_0_0_1_n_n none (adjBlk c XA b) S (constant S200x128 .f32 0x00000000#32)

/-- The trip's product, its first operand loaded from the slot block `b` landed in. -/
theorem pay1_landed (XA : AdjBuf F c) (S : Vec F S10000x128 .f32) (s : Fin 4) (b : Fin 50) (f : InBuf F c s) {off : Fin 3 → Nat} (e : off = inOff s) (hh) :
    k0_pay1 (inbM.view.readAt (Elt F) (Rect.unit (s := S4x200x10000) off S1x200x10000.size hh).toLoadRect (landed c XA s b f)) S = blkVal c XA S b := by
  subst e
  unfold k0_pay1 blkVal
  refine congrArg (fun v => matmul dot_S200x10000_S10000x128_S200x128_1_0_0_1_n_n none v S (constant S200x128 .f32 0x00000000#32)) ?_
  refine (Memref.read_squeeze_slice (Val := Elt F) inbM _ (fun _ => rfl) squeezes_S1x200x10000_S200x10000 shapeCasts_S1x200x10000_S200x10000 (landed c XA s b f)).symm.trans ?_
  exact View.read_writes_whole (islot s).view f (adjBlk c XA b)

/-- What the trip stores in write slot `s` is what the slot then reads. -/
theorem read_pay3 (w : FVec F S200x128 .f32) (s : Fin 2) (f : OutBuf F c s) {off : Fin 3 → Nat} (e : off = outOff s) (hh) :
    (oslot s).view.read (Elt F) ((oubM.access (Rect.unit (s := S2x200x128) off S1x200x128.size hh)).write (Elt F) f (k0_pay3 w) Finset.univ) = w := by
  subst e
  refine (Memref.read_squeeze_slice (Val := Elt F) oubM _ (fun _ => rfl) squeezes_S1x200x128_S200x128
    (show S1x200x128.ShapeCasts S200x128 from squeezes_S1x200x128_S200x128.numel_eq) _).trans ?_
  refine (congrArg (fun v => shapeCast S200x128 v _) (View.read_write_univ (v := oubM.access (Rect.unit (s := S2x200x128) (outOff s) S1x200x128.size hh)) f (k0_pay3 w))).trans ?_
  exact shapeCast_shapeCast w _ _

/-- The whole result: row `r` is row `r % 200` of block `r / 200`. -/
def resF (XA : AdjBuf F c) (S : Vec F S10000x128 .f32) : ResBuf F c := fun y : S10000x128.Idx =>
  blkVal c XA S ⟨(y 0).val / 200, by have h : (y 0).val < 10000 := (y 0).isLt; omega⟩
    (ValueIdx.ix2 ⟨(y 0).val % 200, Nat.mod_lt _ (by decide)⟩ ⟨(y 1).val, (y 1).isLt⟩)

theorem read_resF (XA : AdjBuf F c) (S : Vec F S10000x128 .f32) (b : Fin 50) :
    (oblk b).view.read (Elt F) (resF c XA S) = blkVal c XA S b := by
  funext j
  have h0 : (j 0).val < 200 := (j 0).isLt
  show resF c XA S ((Rect.unit (s := S10000x128) (rowOff b) S200x128.size (rowOff_res b)).emb j) = _
  have e0 : (((Rect.unit (s := S10000x128) (rowOff b) S200x128.size (rowOff_res b)).emb j) 0).val = 200 * b.val + 1 * (j 0).val := rfl
  have e1 : (((Rect.unit (s := S10000x128) (rowOff b) S200x128.size (rowOff_res b)).emb j) 1).val = 0 + 1 * (j 1).val := rfl
  refine congrArg₂ (blkVal c XA S) (Fin.ext ?_) (funext fun a => Fin.ext ?_)
  · show (((Rect.unit (s := S10000x128) (rowOff b) S200x128.size (rowOff_res b)).emb j) 0).val / 200 = b.val
    rw [e0]; omega
  · fin_cases a
    · show (((Rect.unit (s := S10000x128) (rowOff b) S200x128.size (rowOff_res b)).emb j) 0).val % 200 = (j 0).val
      rw [e0]; omega
    · show (((Rect.unit (s := S10000x128) (rowOff b) S200x128.size (rowOff_res b)).emb j) 1).val = (j 1).val
      rw [e1]; omega

/-- A block a transfer of the right values has landed in is that block of the whole result. -/
theorem resP_stored (XA : AdjBuf F c) (S : Vec F S10000x128 .f32) (s : Fin 2) (b : Fin 50) (f : ResBuf F c) (g : OutBuf F c s)
    (hg : (oslot s).view.read (Elt F) g = blkVal c XA S b) :
    (resP c b (stored c s b f g) : sProp 𝕄) = resP c b (resF c XA S) := by
  have h : (oblk b).view.read (Elt F) (stored c s b f g) = (oblk b).view.read (Elt F) (resF c XA S) := by
    rw [read_resF, ← hg]; exact View.read_writes_whole (oblk b).view f _
  exact (pointsTo_rep (c : Thread nD τ) (oblk b) (stored c s b f g) fullShare).trans
    ((congrArg (fun X => ((oblk b).view.loc (c : Thread nD τ) ↦[(oblk b).view.set]{fullShare} (oblk b).view.rep X : sProp 𝕄)) h).trans
      (pointsTo_rep (c : Thread nD τ) (oblk b) (resF c XA S) fullShare).symm)

end Cert.Proof.Spmm

end
-- ==== Proof.Trip.lean ====
/-
  One trip of the pipeline's loop.
-/
module

public import proofs.«01_k».proof.Proof.Values

@[expose] public section

noncomputable section

namespace Cert.Proof.Spmm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip

variable (c : Dev nD) (XA : AdjBuf F c) (XO : ResBuf F c) (fs : SupBuf F c)
  (arg0 : Memref sig .tc .vmem S10000x128 .f32) (harg0 : arg0.IsWhole)
  (arg1 : Memref sig .tc .vmem S128x128 .f32) (harg1 : arg1.IsWhole)
  (v15 v20 v27 : BitVec 32) (v28 : BitVec 1)

/-- The loop's trip on given carried words. -/
abbrev tripG (k : Fin k0_t1_loop.trips) (a : BitVec 32 × BitVec 32 × BitVec 32 × BitVec 32 × BitVec 32) :
    Prog (TpuEff nD τ sig (Elt F) Λ₀ .tc) (BitVec 32 × BitVec 32 × BitVec 32 × BitVec 32 × BitVec 32) :=
  k0_t1_body (F := F) arg0 harg0 arg1 harg1 adjM (Memref.isWhole_whole _) resM (Memref.isWhole_whole _) supM (Memref.isWhole_whole _)
    inbM (Memref.isWhole_whole _) cc0_scoped1 oubM (Memref.isWhole_whole _) cc0_scoped3 v15 v20 v27 v28 k a

/-- A result block's transfer under way: write slot `s` holding block `b`'s values, on their way to block `b`. -/
def outRun (s : Fin 2) (b : Fin 50) : sProp 𝕄 :=
  iprop(∃ f, ∃ g, ⌜(oslot s).view.read (Elt F) g = blkVal c XA (supVec c fs) b⌝ ∗ outFlightP c s b f g)
/-- A write slot at rest with its semaphore; likewise a read slot. -/
def outRest (s : Fin 2) : sProp 𝕄 := iprop(ocellP c s ∗ ∃ f, oslotP c s f)
def inRest (s : Fin 4) : sProp 𝕄 := iprop(icellP c s ∗ ∃ f, islotP c s f)
/-- A block of `adj` on its way into a slot. -/
def inRun (s : Fin 4) (b : Fin 50) : sProp 𝕄 := iprop(∃ f, inFlightP c XA s b f)
/-- What every trip holds: the product buffer, and leave to wait. -/
def steady : sProp 𝕄 := iprop(supP c fs ∗ ∃ W, owes (c : Thread nD τ) 0 W)

/-- A trip in the middle: a block of `adj` is started, one waited for and multiplied; its product is started on its way
    out and the previous product waited for. -/
theorem trip_mid (k : Fin k0_t1_loop.trips) (h0 : k.val ≠ 0) (h47 : k.val < 47) :
    iprop(steady c fs ∗ homeP c XA (Ring.bk 50 (k.val + 3)) ∗ inRest c (Ring.sl 4 (k.val + 3)) ∗ inRun c XA (Ring.sl 4 k.val) (Ring.bk 50 k.val)
      ∗ outRest c (Ring.sl 2 k.val) ∗ resP c (Ring.bk 50 k.val) XO ∗ outRun c XA fs (Ring.sl 2 (k.val + 1)) (Ring.bk 50 (k.val - 1)))
    ⊢ wp frame (wpE (defs₀ (F := F)) 𝒱₀ (c : Thread nD τ) none) Set.univ (tripG arg0 harg0 arg1 harg1 v15 v20 v27 v28 k (carried k.val))
        (fun r => iprop(⌜r = carried (k.val + 1)⌝ ∗ steady c fs ∗ homeP c XA (Ring.bk 50 k.val) ∗ inRun c XA (Ring.sl 4 (k.val + 3)) (Ring.bk 50 (k.val + 3))
          ∗ inRest c (Ring.sl 4 k.val) ∗ outRun c XA fs (Ring.sl 2 k.val) (Ring.bk 50 k.val) ∗ outRest c (Ring.sl 2 (k.val + 1))
          ∗ resP c (Ring.bk 50 (k.val - 1)) (resF c XA (supVec c fs)))) := by
  have hc1 := chk1_ok k
  have hc2 := chk2_ok k
  have hc3 := chk3_ok k
  have h3 : k0_cond3 k (w10 k) = 1#1 := (cond3_iff k).2 h47
  have h4 := cond4_true k
  have h7 := cond7_true k
  have h9 : k0_cond9 k (w10 k) = 1#1 := (cond9_iff k).2 h0
  unfold steady inRest outRest inRun outRun
  iintro ⟨⟨HS, %W, HW⟩, Hh, ⟨Hic, %fi, Hi⟩, ⟨%f0, HF⟩, ⟨Hoc, %fo, Ho⟩, Hr, %fp, %gp, %hgp, HG⟩
  dsimp only [tripG, carried]
  sl_unfold [k0_t1_body]
  sl_exec
  sl_step
  isplitr
  · ipureintro
    clear * - h0 h47
    revert k; decide +kernel
  isplitl [HS HW]
  · isplitl [HS]; · iexact HS
    iexists _; iexact HW
  isplitl [HF_src]; · iexact HF_src
  isplitl [Hic]; · iexists fi; iexact Hic
  isplitl [HF HF_dst]
  · isplitl [HF]; · iexact HF
    iexists _; iexact HF_dst
  isplitl [Hoc]
  · iexists XO; iexists (trip_mid.sl.Ho_w1 c XA fs k hc2 hc3 fo)
    isplitr
    · ipureintro
      delta trip_mid.sl.Ho_w1
      refine (read_pay3 c (trip_mid.sl.r c XA fs k hc2) (Ring.sl 2 k.val) fo (off16_eq k) hc3).trans ?_
      delta trip_mid.sl.r
      delta trip_mid.sl.v148_r0
      exact pay1_landed c XA (supVec c fs) (Ring.sl 4 k.val) (Ring.bk 50 k.val) _ (off15_eq k) hc2
    iexact Hoc
  isplitl [HG HG_src]
  · isplitl [HG]; · iexact HG
    iexists _; iexact HG_src
  irw [← resP_stored c XA (supVec c fs) (Ring.sl 2 (k.val + 1)) (Ring.bk 50 (k.val - 1)) fp gp hgp]
  iexact HG_dst

/-- The first trip: no product is on its way out yet. -/
theorem trip_first (k : Fin k0_t1_loop.trips) (h0 : k.val = 0) :
    iprop(steady c fs ∗ homeP c XA (Ring.bk 50 (k.val + 3)) ∗ inRest c (Ring.sl 4 (k.val + 3)) ∗ inRun c XA (Ring.sl 4 k.val) (Ring.bk 50 k.val)
      ∗ outRest c (Ring.sl 2 k.val) ∗ resP c (Ring.bk 50 k.val) XO)
    ⊢ wp frame (wpE (defs₀ (F := F)) 𝒱₀ (c : Thread nD τ) none) Set.univ (tripG arg0 harg0 arg1 harg1 v15 v20 v27 v28 k (carried k.val))
        (fun r => iprop(⌜r = carried (k.val + 1)⌝ ∗ steady c fs ∗ homeP c XA (Ring.bk 50 k.val) ∗ inRun c XA (Ring.sl 4 (k.val + 3)) (Ring.bk 50 (k.val + 3))
          ∗ inRest c (Ring.sl 4 k.val) ∗ outRun c XA fs (Ring.sl 2 k.val) (Ring.bk 50 k.val))) := by
  have hc1 := chk1_ok k
  have hc2 := chk2_ok k
  have hc3 := chk3_ok k
  have h47 : k.val < 47 := by omega
  have h3 : k0_cond3 k (w10 k) = 1#1 := (cond3_iff k).2 h47
  have h4 := cond4_true k
  have h7 := cond7_true k
  have h9 : ¬ k0_cond9 k (w10 k) = 1#1 := fun h => (cond9_iff k).1 h h0
  unfold steady inRest outRest inRun outRun
  iintro ⟨⟨HS, %W, HW⟩, Hh, ⟨Hic, %fi, Hi⟩, ⟨%f0, HF⟩, ⟨Hoc, %fo, Ho⟩, Hr⟩
  dsimp only [tripG, carried]
  sl_unfold [k0_t1_body]
  sl_exec
  sl_step
  isplitr
  · ipureintro
    clear * - h0
    revert k; decide +kernel
  isplitl [HS HW]
  · isplitl [HS]; · iexact HS
    iexists _; iexact HW
  isplitl [HF_src]; · iexact HF_src
  isplitl [Hic]; · iexists fi; iexact Hic
  isplitl [HF HF_dst]
  · isplitl [HF]; · iexact HF
    iexists _; iexact HF_dst
  iexists XO; iexists (trip_first.sl.Ho_w1 c XA fs k hc2 hc3 fo)
  isplitr
  · ipureintro
    delta trip_first.sl.Ho_w1
    refine (read_pay3 c (trip_first.sl.r c XA fs k hc2) (Ring.sl 2 k.val) fo (off16_eq k) hc3).trans ?_
    delta trip_first.sl.r
    delta trip_first.sl.v148_r0
    exact pay1_landed c XA (supVec c fs) (Ring.sl 4 k.val) (Ring.bk 50 k.val) _ (off15_eq k) hc2
  iexact Hoc

/-- One of the last three trips: no block of `adj` is left to start. -/
theorem trip_late (k : Fin k0_t1_loop.trips) (h0 : k.val ≠ 0) (h47 : ¬ k.val < 47) :
    iprop(steady c fs ∗ inRun c XA (Ring.sl 4 k.val) (Ring.bk 50 k.val)
      ∗ outRest c (Ring.sl 2 k.val) ∗ resP c (Ring.bk 50 k.val) XO ∗ outRun c XA fs (Ring.sl 2 (k.val + 1)) (Ring.bk 50 (k.val - 1)))
    ⊢ wp frame (wpE (defs₀ (F := F)) 𝒱₀ (c : Thread nD τ) none) Set.univ (tripG arg0 harg0 arg1 harg1 v15 v20 v27 v28 k (carried k.val))
        (fun r => iprop(⌜r = carried (k.val + 1)⌝ ∗ steady c fs ∗ homeP c XA (Ring.bk 50 k.val)
          ∗ inRest c (Ring.sl 4 k.val) ∗ outRun c XA fs (Ring.sl 2 k.val) (Ring.bk 50 k.val) ∗ outRest c (Ring.sl 2 (k.val + 1))
          ∗ resP c (Ring.bk 50 (k.val - 1)) (resF c XA (supVec c fs)))) := by
  have hc1 := chk1_ok k
  have hc2 := chk2_ok k
  have hc3 := chk3_ok k
  have h3 : ¬ k0_cond3 k (w10 k) = 1#1 := fun h => h47 ((cond3_iff k).1 h)
  have h4 := cond4_true k
  have h7 := cond7_true k
  have h9 : k0_cond9 k (w10 k) = 1#1 := (cond9_iff k).2 h0
  unfold steady inRest outRest inRun outRun
  iintro ⟨⟨HS, %W, HW⟩, ⟨%f0, HF⟩, ⟨Hoc, %fo, Ho⟩, Hr, %fp, %gp, %hgp, HG⟩
  dsimp only [tripG, carried]
  sl_unfold [k0_t1_body]
  sl_exec
  sl_step
  isplitr
  · ipureintro
    clear * - h0 h47
    revert k; decide +kernel
  isplitl [HS HW]
  · isplitl [HS]; · iexact HS
    iexists _; iexact HW
  isplitl [HF_src]; · iexact HF_src
  isplitl [HF HF_dst]
  · isplitl [HF]; · iexact HF
    iexists _; iexact HF_dst
  isplitl [Hoc]
  · iexists XO; iexists (trip_late.sl.Ho_w1 c XA fs k hc2 hc3 fo)
    isplitr
    · ipureintro
      delta trip_late.sl.Ho_w1
      refine (read_pay3 c (trip_late.sl.r c XA fs k hc2) (Ring.sl 2 k.val) fo (off16_eq k) hc3).trans ?_
      delta trip_late.sl.r
      delta trip_late.sl.v148_r0
      exact pay1_landed c XA (supVec c fs) (Ring.sl 4 k.val) (Ring.bk 50 k.val) _ (off15_eq k) hc2
    iexact Hoc
  isplitl [HG HG_src]
  · isplitl [HG]; · iexact HG
    iexists _; iexact HG_src
  irw [← resP_stored c XA (supVec c fs) (Ring.sl 2 (k.val + 1)) (Ring.bk 50 (k.val - 1)) fp gp hgp]
  iexact HG_dst

end Trip

end Cert.Proof.Spmm

end
-- ==== Proof.Loop.lean ====
/-
  The pipeline's loop: what is held before each trip, and that a trip takes it to the next.
-/
module

public import proofs.«01_k».proof.Proof.Trip
public import Idealize.ShloMosaic.Lib.Ring.WriteBehind

@[expose] public section

noncomputable section

namespace Cert.Proof.Spmm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Loop

variable (c : Dev nD) (XA : AdjBuf F c) (XO : ResBuf F c) (fs : SupBuf F c)

/-- The read slot of turn `p`: block `p` on its way into it, or at rest when there is no block `p`. -/
def inTurn (p : ℕ) : sProp 𝕄 := if p < 50 then inRun c XA (Ring.sl 4 p) (Ring.bk 50 p) else inRest c (Ring.sl 4 p)
/-- The write slot used last before trip `k`: its block on its way out, or at rest before the first trip. -/
def outTurn (k : ℕ) : sProp 𝕄 :=
  if 1 ≤ k then outRun c XA fs (Ring.sl 2 (k + 1)) (Ring.bk 50 (k - 1)) else outRest c (Ring.sl 2 (k + 1))
/-- Block `b` of the result still at its first contents, and block `b` finished. -/
abbrev resOld (b : Fin 50) : sProp 𝕄 := resP c b XO
abbrev resNew (b : Fin 50) : sProp 𝕄 := resP c b (resF c XA (supVec c fs))

/-- Before trip `k`: blocks `k`, `k + 1`, `k + 2` of `adj` on their way, one read slot free, one write slot free, the
    other with block `k - 1` of the result on its way; blocks before that finished, blocks from `k` on untouched. -/
def before (k : ℕ) : sProp 𝕄 :=
  iprop(steady c fs ∗ bigSep (Ring.homeSet 3 k) (homeP c XA)
    ∗ inTurn c XA k ∗ inTurn c XA (k + 1) ∗ inTurn c XA (k + 2) ∗ inRest c (Ring.sl 4 (k + 3))
    ∗ outRest c (Ring.sl 2 k) ∗ outTurn c XA fs k
    ∗ bigSep (Ring.aheadSet k) (resOld c XO) ∗ bigSep (Ring.behindSet 1 k) (resNew c XA fs))

theorem inTurn_run (p : ℕ) (h : p < 50) : inTurn c XA p = inRun c XA (Ring.sl 4 p) (Ring.bk 50 p) := if_pos h
theorem inTurn_rest (p : ℕ) (h : ¬ p < 50) : inTurn c XA p = (inRest c (Ring.sl 4 p) : sProp 𝕄) := if_neg h
theorem outTurn_run (k : ℕ) (h : 1 ≤ k) : outTurn c XA fs k = outRun c XA fs (Ring.sl 2 (k + 1)) (Ring.bk 50 (k - 1)) := if_pos h
theorem outTurn_rest (k : ℕ) (h : ¬ 1 ≤ k) : outTurn c XA fs k = (outRest c (Ring.sl 2 (k + 1)) : sProp 𝕄) := if_neg h

theorem ahead_split (k : ℕ) (h : k < 50) :
    (bigSep (Ring.aheadSet k) (resOld c XO) : sProp 𝕄) = iprop(resOld c XO (Ring.bk 50 k) ∗ bigSep (Ring.aheadSet (k + 1)) (resOld c XO)) := by
  rw [Ring.aheadSet_open k h]; exact Ring.bigSep_put (Ring.bk_not_mem_aheadSet_succ k h) _
theorem behind_join (k : ℕ) (h1 : 1 ≤ k) (h : k < 50) :
    (bigSep (Ring.behindSet 1 (k + 1)) (resNew c XA fs) : sProp 𝕄) = iprop(resNew c XA fs (Ring.bk 50 (k - 1)) ∗ bigSep (Ring.behindSet 1 k) (resNew c XA fs)) := by
  rw [Ring.behindSet_close 1 k h1 h]; exact Ring.bigSep_put (Ring.bk_not_mem_behindSet 1 k h1 h) _
theorem home_split (k : ℕ) (h : k + 3 < 50) :
    (bigSep (Ring.homeSet 3 k) (homeP c XA) : sProp 𝕄) = iprop(homeP c XA (Ring.bk 50 (k + 3)) ∗ bigSep ((Ring.homeSet 3 k).erase (Ring.bk 50 (k + 3))) (homeP c XA)) := by
  conv_lhs => rw [Ring.homeSet_out 3 k h]
  exact Ring.bigSep_put (Ring.bkL_not_mem_erase 3 k) _
theorem home_join (k : ℕ) (h : k + 3 < 50) :
    (bigSep (Ring.homeSet 3 (k + 1)) (homeP c XA) : sProp 𝕄) = iprop(homeP c XA (Ring.bk 50 k) ∗ bigSep ((Ring.homeSet 3 k).erase (Ring.bk 50 (k + 3))) (homeP c XA)) := by
  conv_lhs => rw [Ring.homeSet_succ 3 k h]
  exact Ring.bigSep_put (Ring.bk_not_mem_erase 3 k (by omega) (by decide)) _
theorem home_join_late (k : ℕ) (h : 50 ≤ k + 3) (hk : k < 50) :
    (bigSep (Ring.homeSet 3 (k + 1)) (homeP c XA) : sProp 𝕄) = iprop(homeP c XA (Ring.bk 50 k) ∗ bigSep (Ring.homeSet 3 k) (homeP c XA)) := by
  conv_lhs => rw [Ring.homeSet_succ_tail 3 k h hk]
  exact Ring.bigSep_put (Ring.bk_not_mem_homeSet 3 k hk (by decide)) _

variable
  (arg0 : Memref sig .tc .vmem S10000x128 .f32) (harg0 : arg0.IsWhole)
  (arg1 : Memref sig .tc .vmem S128x128 .f32) (harg1 : arg1.IsWhole)
  (v15 v20 v27 : BitVec 32) (v28 : BitVec 1)

/-- Every trip takes what is held before it to what is held before the next. -/
theorem trip_step (k : Fin k0_t1_loop.trips) :
    before c XA XO fs k.val
    ⊢ wp frame (wpE (defs₀ (F := F)) 𝒱₀ (c : Thread nD τ) none) Set.univ (tripG arg0 harg0 arg1 harg1 v15 v20 v27 v28 k (carried k.val))
        (fun r => iprop(⌜r = carried (k.val + 1)⌝ ∗ before c XA XO fs (k.val + 1))) := by
  have hk := trip_lt k
  have e4 : Ring.sl 4 (k.val + 1 + 3) = Ring.sl 4 k.val := Ring.sl_succ_add 4 k.val 3 rfl
  have e2 : Ring.sl 2 (k.val + 1 + 1) = Ring.sl 2 k.val := Ring.sl_succ_add 2 k.val 1 rfl
  have n2 : k.val + 1 + 1 = k.val + 2 := rfl
  have n3 : k.val + 1 + 2 = k.val + 3 := rfl
  unfold before
  rw [ahead_split c XO k.val hk, inTurn_run c XA k.val hk, outTurn_run c XA fs (k.val + 1) (by omega), e4, e2, n2, n3, Nat.add_sub_cancel]
  by_cases h0 : k.val = 0
  · rw [outTurn_rest c XA fs k.val (by omega), home_split c XA k.val (by omega), home_join c XA k.val (by omega),
      inTurn_run c XA (k.val + 3) (by omega), Ring.behindSet_boot 1 (k.val + 1) (by omega), Ring.behindSet_boot 1 k.val (by omega)]
    iintro ⟨HS, ⟨Hh, Hhs⟩, H0, H1, H2, H3, Ho, Hp, ⟨Hr, Hrs⟩, Hb⟩
    iapply (wp_wand_r Idealize.ShloMosaic.frame (wpE (defs₀ (F := F)) 𝒱₀ (c : Thread nD τ) none) Set.univ)
    isplitl [HS Hh H0 H3 Ho Hr]
    · iapply (trip_first c XA XO fs arg0 harg0 arg1 harg1 v15 v20 v27 v28 k h0)
      isplitl [HS]; · iexact HS
      isplitl [Hh]; · iexact Hh
      isplitl [H3]; · iexact H3
      isplitl [H0]; · iexact H0
      isplitl [Ho]; · iexact Ho
      iexact Hr
    iintro %r ⟨%hr, HS, Hh, H3, H0, Ho⟩
    isplitr; · ipureintro; exact hr
    isplitl [HS]; · iexact HS
    isplitl [Hh Hhs]; · isplitl [Hh] <;> iassumption
    isplitl [H1]; · iexact H1
    isplitl [H2]; · iexact H2
    isplitl [H3]; · iexact H3
    isplitl [H0]; · iexact H0
    isplitl [Hp]; · iexact Hp
    isplitl [Ho]; · iexact Ho
    isplitl [Hrs]; · iexact Hrs
    iexact Hb
  rw [outTurn_run c XA fs k.val (by omega), behind_join c XA fs k.val (by omega) hk]
  by_cases h47 : k.val < 47
  · rw [home_split c XA k.val (by omega), home_join c XA k.val (by omega), inTurn_run c XA (k.val + 3) (by omega)]
    iintro ⟨HS, ⟨Hh, Hhs⟩, H0, H1, H2, H3, Ho, Hp, ⟨Hr, Hrs⟩, Hb⟩
    iapply (wp_wand_r Idealize.ShloMosaic.frame (wpE (defs₀ (F := F)) 𝒱₀ (c : Thread nD τ) none) Set.univ)
    isplitl [HS Hh H0 H3 Ho Hr Hp]
    · iapply (trip_mid c XA XO fs arg0 harg0 arg1 harg1 v15 v20 v27 v28 k h0 h47)
      isplitl [HS]; · iexact HS
      isplitl [Hh]; · iexact Hh
      isplitl [H3]; · iexact H3
      isplitl [H0]; · iexact H0
      isplitl [Ho]; · iexact Ho
      isplitl [Hr]; · iexact Hr
      iexact Hp
    iintro %r ⟨%hr, HS, Hh, H3, H0, Ho, Hp, Hn⟩
    isplitr; · ipureintro; exact hr
    isplitl [HS]; · iexact HS
    isplitl [Hh Hhs]; · isplitl [Hh] <;> iassumption
    isplitl [H1]; · iexact H1
    isplitl [H2]; · iexact H2
    isplitl [H3]; · iexact H3
    isplitl [H0]; · iexact H0
    isplitl [Hp]; · iexact Hp
    isplitl [Ho]; · iexact Ho
    isplitl [Hrs]; · iexact Hrs
    isplitl [Hn] <;> iassumption
  · rw [home_join_late c XA k.val (by omega) hk, inTurn_rest c XA (k.val + 3) (by omega)]
    iintro ⟨HS, Hhs, H0, H1, H2, H3, Ho, Hp, ⟨Hr, Hrs⟩, Hb⟩
    iapply (wp_wand_r Idealize.ShloMosaic.frame (wpE (defs₀ (F := F)) 𝒱₀ (c : Thread nD τ) none) Set.univ)
    isplitl [HS H0 Ho Hr Hp]
    · iapply (trip_late c XA XO fs arg0 harg0 arg1 harg1 v15 v20 v27 v28 k h0 h47)
      isplitl [HS]; · iexact HS
      isplitl [H0]; · iexact H0
      isplitl [Ho]; · iexact Ho
      isplitl [Hr]; · iexact Hr
      iexact Hp
    iintro %r ⟨%hr, HS, Hh, H0, Ho, Hp, Hn⟩
    isplitr; · ipureintro; exact hr
    isplitl [HS]; · iexact HS
    isplitl [Hh Hhs]; · isplitl [Hh] <;> iassumption
    isplitl [H1]; · iexact H1
    isplitl [H2]; · iexact H2
    isplitl [H3]; · iexact H3
    isplitl [H0]; · iexact H0
    isplitl [Hp]; · iexact Hp
    isplitl [Ho]; · iexact Ho
    isplitl [Hrs]; · iexact Hrs
    isplitl [Hn] <;> iassumption

set_option warn.classDefReducibility false in
/-- The loop's invariant. -/
@[sl_loop] def loopInv (init : BitVec 32 × BitVec 32 × BitVec 32 × BitVec 32 × BitVec 32) :
    LoopInvTy_k0_t1 (F := F) Unit ℕ (UU nD τ) ℕ 𝒱₀ c none Set.univ arg0 harg0 arg1 harg1 adjM (Memref.isWhole_whole _) resM (Memref.isWhole_whole _)
      supM (Memref.isWhole_whole _) inbM (Memref.isWhole_whole _) cc0_scoped1 oubM (Memref.isWhole_whole _) cc0_scoped3 v15 v20 v27 v28 init where
  inv k acc := iprop(⌜acc = carried k⌝ ∗ before c XA XO fs k)
  step k acc := by
    iintro ⟨%e, H⟩
    subst e
    iapply (trip_step c XA XO fs arg0 harg0 arg1 harg1 v15 v20 v27 v28 k)
    iexact H

end Loop

end Cert.Proof.Spmm

end
-- ==== Proof.Body.lean ====
/-
  The whole kernel body: the product buffer filled, three blocks of `adj` started, the loop, the last block waited for.
-/
module

public import proofs.«01_k».proof.Proof.Loop

@[expose] public section

noncomputable section

namespace Cert.Proof.Spmm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- Equal assertions entail each other. -/
theorem eq_entails {P Q : sProp 𝕄} (e : P = Q) : P ⊢ Q := e ▸ .rfl

section Body

variable (c : Dev nD) (XA : AdjBuf F c) (XO : ResBuf F c)
  (arg0 : Memref sig .tc .vmem S10000x128 .f32) (harg0 : arg0.IsWhole)
  (arg1 : Memref sig .tc .vmem S128x128 .f32) (harg1 : arg1.IsWhole)

/-- The body on given staging buffers for `input` and `weight`. -/
abbrev bodyG : Prog (TpuEff nD τ sig (Elt F) Λ₀ .tc) PUnit :=
  cc0__outer_kernel arg0 harg0 arg1 harg1 adjM (Memref.isWhole_whole _) resM (Memref.isWhole_whole _) supM (Memref.isWhole_whole _)
    inbM (Memref.isWhole_whole _) cc0_scoped1 oubM (Memref.isWhole_whole _) cc0_scoped3

abbrev xP (g : Buf (Elt F) (arg0.view.loc (c : Thread nD τ))) : sProp 𝕄 := arg0.view.loc (c : Thread nD τ) ↦[arg0.view.set]{fullShare} g
abbrev wP (g : Buf (Elt F) (arg1.view.loc (c : Thread nD τ))) : sProp 𝕄 := arg1.view.loc (c : Thread nD τ) ↦[arg1.view.set]{fullShare} g

abbrev xVec (g : Buf (Elt F) (arg0.view.loc (c : Thread nD τ))) : Vec F S10000x128 .f32 :=
  arg0.view.readAt (Elt F) (Rect.unit (s := S10000x128) ![0, 0] S10000x128.size inb_S10000x128_S10000x128_0_0).toLoadRect g
abbrev wVec (g : Buf (Elt F) (arg1.view.loc (c : Thread nD τ))) : Vec F S128x128 .f32 :=
  arg1.view.readAt (Elt F) (Rect.unit (s := S128x128) ![0, 0] S128x128.size inb_S128x128_S128x128_0_0).toLoadRect g

/-- The product buffer once filled: `input @ weight`. -/
def supOf (x : Vec F S10000x128 .f32) (w : Vec F S128x128 .f32) : SupBuf F c :=
  supM.view.writes (Elt F) supM.view.junk [⟨Rect.unit (s := S10000x128) ![0, 0] S10000x128.size inb_S10000x128_S10000x128_0_0, k0_pay2 x w⟩]

theorem supVec_supOf (x : Vec F S10000x128 .f32) (w : Vec F S128x128 .f32) : supVec c (supOf c x w) = k0_pay2 x w :=
  View.readAt_writes_full supM.view _ _ _ _ []

/-- What is held when the loop is reached is what is held before trip 0. -/
theorem before_zero (fs : SupBuf F c) :
    iprop(steady c fs ∗ bigSep (Ring.homeSet 3 0) (homeP c XA) ∗ inRun c XA 0 0 ∗ inRun c XA 1 1 ∗ inRun c XA 2 2 ∗ inRest c 3
      ∗ outRest c 0 ∗ outRest c 1 ∗ bigSep Finset.univ (resOld c XO))
    ⊢ before c XA XO fs 0 := by
  unfold before
  rw [inTurn_run c XA 0 (by decide), inTurn_run c XA (0 + 1) (by decide), inTurn_run c XA (0 + 2) (by decide), outTurn_rest c XA fs 0 (by decide),
    Ring.aheadSet_zero, Ring.behindSet_boot 1 0 (by decide)]
  iintro ⟨HS, Hh, H0, H1, H2, H3, Ho, Hp, Hr⟩
  isplitl [HS]; · iexact HS
  isplitl [Hh]; · iexact Hh
  isplitl [H0]; · iexact H0
  isplitl [H1]; · iexact H1
  isplitl [H2]; · iexact H2
  isplitl [H3]; · iexact H3
  isplitl [Ho]; · iexact Ho
  isplitl [Hp]; · iexact Hp
  isplitl [Hr]; · iexact Hr
  irw [bigSep_empty]
  iempintro

/-- After the last trip: every block of `adj` at rest, every block of the result finished but the last, on its way. -/
theorem before_last (fs : SupBuf F c) (T : ℕ) (hT : T = 50) :
    before c XA XO fs T
    ⊢ iprop(steady c fs ∗ bigSep Finset.univ (homeP c XA) ∗ inRest c 0 ∗ inRest c 1 ∗ inRest c 2 ∗ inRest c 3
      ∗ outRest c 0 ∗ outRun c XA fs 1 49 ∗ bigSep (Ring.behindSet 1 50) (resNew c XA fs)) := by
  subst hT
  unfold before
  rw [inTurn_rest c XA 50 (by decide), inTurn_rest c XA (50 + 1) (by decide), inTurn_rest c XA (50 + 2) (by decide), outTurn_run c XA fs 50 (by decide),
    Ring.homeSet_last 3 50 (by decide)]
  iintro ⟨HS, Hh, H2, H3, H0, H1, Ho, Hp, Hr, Hn⟩
  isplitl [HS]; · iexact HS
  isplitl [Hh]; · iexact Hh
  isplitl [H0]; · iexact H0
  isplitl [H1]; · iexact H1
  isplitl [H2]; · iexact H2
  isplitl [H3]; · iexact H3
  isplitl [Ho]; · iexact Ho
  isplitl [Hp]; · iexact Hp
  iexact Hn

theorem finished (fs : SupBuf F c) :
    iprop(resNew c XA fs 49 ∗ bigSep (Ring.behindSet 1 50) (resNew c XA fs)) ⊢ (bigSep Finset.univ (resNew c XA fs) : sProp 𝕄) := by
  have e : (Finset.univ : Finset (Fin 50)) = insert 49 (Ring.behindSet 1 50) := by
    ext b; simp only [Finset.mem_univ, Finset.mem_insert, Ring.mem_behindSet, true_iff, Fin.ext_iff]
    have := b.isLt; show b.val = 49 ∨ _; omega
  rw [e, Ring.bigSep_put (by decide)]

attribute [local irreducible] before in
/-- The body from what the launch hands it to what it hands back. -/
theorem bodyRun (gx gw gs W) (Q : PUnit → sProp 𝕄) :
    iprop((xP c arg0 gx ∗ wP c arg1 gw ∗ supP c gs ∗ owes (c : Thread nD τ) 0 W
      ∗ homeP c XA 0 ∗ homeP c XA 1 ∗ homeP c XA 2 ∗ bigSep (Ring.homeSet 3 0) (homeP c XA)
      ∗ inRest c 0 ∗ inRest c 1 ∗ inRest c 2 ∗ inRest c 3 ∗ outRest c 0 ∗ outRest c 1 ∗ bigSep Finset.univ (resOld c XO))
     ∗ (iprop(xP c arg0 gx ∗ wP c arg1 gw ∗ steady c (supOf c (xVec c arg0 gx) (wVec c arg1 gw)) ∗ bigSep Finset.univ (homeP c XA)
      ∗ inRest c 0 ∗ inRest c 1 ∗ inRest c 2 ∗ inRest c 3 ∗ outRest c 0 ∗ outRest c 1
      ∗ bigSep Finset.univ (resNew c XA (supOf c (xVec c arg0 gx) (wVec c arg1 gw)))) -∗ Q ⟨⟩))
      ⊢ wp frame (wpE (defs₀ (F := F)) 𝒱₀ (c : Thread nD τ) none) Set.univ (bodyG arg0 harg0 arg1 harg1) Q := by
  have hk1 := cond1_true
  have hk2 := cond2_true
  have hk4 := chk4_ok
  have hk5 := chk5_ok
  conv_lhs => arg 1; unfold inRest
  iintro ⟨⟨Hx, Hw, HS, HW, Hh0, Hh1, Hh2, Hh, ⟨Hc0, %f0, Hi0⟩, ⟨Hc1, %f1, Hi1⟩, ⟨Hc2, %f2, Hi2⟩, Hi3, Ho0, Ho1, Hr⟩, Hk⟩
  sl_exec
  ihave HB := (before_zero c XA XO (supOf c (xVec c arg0 gx) (wVec c arg1 gw))) $$ [HS HW Hh Hc0 Hc1 Hc2 Hi3 Ho0 Ho1 Hr]
  · unfold steady inRun inRest
    isplitl [HS HW]
    · isplitl [HS]; · iexact HS
      iexists _; iexact HW
    isplitl [Hh]; · iexact Hh
    isplitl [Hc0]; · iexists f0; iexact Hc0
    isplitl [Hc1]; · iexists f1; iexact Hc1
    isplitl [Hc2]; · iexists f2; iexact Hc2
    isplitl [Hi3]; · iexact Hi3
    isplitl [Ho0]; · iexact Ho0
    isplitl [Ho1]; · iexact Ho1
    iexact Hr
  sl_exec
  ihave HL := (before_last c XA XO (supOf c (xVec c arg0 gx) (wVec c arg1 gw)) _ trips_eq) $$ [HB]
  · iexact HB
  unfold outRun steady
  icases HL with ⟨⟨HS, %W', HW⟩, Hh, Hi0, Hi1, Hi2, Hi3, Ho0, ⟨%fp, %gp, %hgp, Ho1⟩, Hn⟩
  sl_exec
  sl_step
  iapply Hk
  isplitl [Hx]; · iexact Hx
  isplitl [Hw]; · iexact Hw
  isplitl [HS HW]
  · isplitl [HS]; · iexact HS
    iexists _; iexact HW
  isplitl [Hh]; · iexact Hh
  isplitl [Hi0]; · iexact Hi0
  isplitl [Hi1]; · iexact Hi1
  isplitl [Hi2]; · iexact Hi2
  isplitl [Hi3]; · iexact Hi3
  isplitl [Ho0]; · iexact Ho0
  isplitl [Ho1 Ho1_src]
  · unfold outRest
    isplitl [Ho1]; · iexact Ho1
    iexists _; iexact Ho1_src
  iapply (finished c XA (supOf c (xVec c arg0 gx) (wVec c arg1 gw)))
  isplitl [Ho1_dst]
  · iapply (eq_entails (resP_stored c XA (supVec c (supOf c (xVec c arg0 gx) (wVec c arg1 gw))) 1 49 fp gp hgp))
    iexact Ho1_dst
  iexact Hn

end Body

end Cert.Proof.Spmm

end
-- ==== Proof.Geometry.lean ====
/-
  Whole buffers and their pieces: `adj` and the result as fifty blocks of rows, the read and write buffers as slots.
-/
module

public import proofs.«01_k».proof.Proof.Body

@[expose] public section

noncomputable section

namespace Cert.Proof.Spmm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The index sets -/

abbrev ArowsSet (b : Fin 50) : Finset S10000x10000.Idx := (Rect.unit (s := S10000x10000) (rowOff b) S200x10000.size (rowOff_adj b)).set
abbrev RrowsSet (b : Fin 50) : Finset S10000x128.Idx := (Rect.unit (s := S10000x128) (rowOff b) S200x128.size (rowOff_res b)).set
abbrev InSet (s : Fin 4) : Finset S4x200x10000.Idx := (Rect.unit (s := S4x200x10000) (inOff s) S1x200x10000.size (inOff_inb s)).set
abbrev OutSet (s : Fin 2) : Finset S2x200x128.Idx := (Rect.unit (s := S2x200x128) (outOff s) S1x200x128.size (outOff_inb s)).set

theorem ablk_set (b : Fin 50) : (ablk b).view.set = ArowsSet b := View.set_slice_whole _ _
theorem oblk_set (b : Fin 50) : (oblk b).view.set = RrowsSet b := View.set_slice_whole _ _
theorem islot_set (s : Fin 4) : (islot s).view.set = InSet s := (View.set_reshape _ _).trans (View.set_slice_whole _ _)
theorem oslot_set (s : Fin 2) : (oslot s).view.set = OutSet s := (View.set_reshape _ _).trans (View.set_slice_whole _ _)

theorem mem_Arows (b : Fin 50) (y : S10000x10000.Idx) : y ∈ ArowsSet b ↔ (y 0).val / 200 = b.val := by
  rw [Rect.mem_set_unit]
  have h1 : (y 1).val < 10000 := (y 1).isLt
  constructor
  · intro H; have a0 : 200 * b.val ≤ (y 0).val ∧ (y 0).val < 200 * b.val + 200 := H 0; omega
  · intro H i; fin_cases i
    · show 200 * b.val ≤ (y 0).val ∧ (y 0).val < 200 * b.val + 200; omega
    · show 0 ≤ (y 1).val ∧ (y 1).val < 0 + 10000; omega
theorem mem_Rrows (b : Fin 50) (y : S10000x128.Idx) : y ∈ RrowsSet b ↔ (y 0).val / 200 = b.val := by
  rw [Rect.mem_set_unit]
  have h1 : (y 1).val < 128 := (y 1).isLt
  constructor
  · intro H; have a0 : 200 * b.val ≤ (y 0).val ∧ (y 0).val < 200 * b.val + 200 := H 0; omega
  · intro H i; fin_cases i
    · show 200 * b.val ≤ (y 0).val ∧ (y 0).val < 200 * b.val + 200; omega
    · show 0 ≤ (y 1).val ∧ (y 1).val < 0 + 128; omega
theorem mem_In (s : Fin 4) (y : S4x200x10000.Idx) : y ∈ InSet s ↔ (y 0).val = s.val := by
  rw [Rect.mem_set_unit]
  have h1 : (y 1).val < 200 := (y 1).isLt
  have h2 : (y 2).val < 10000 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 200; omega
    · show 0 ≤ (y 2).val ∧ (y 2).val < 0 + 10000; omega
theorem mem_Out (s : Fin 2) (y : S2x200x128.Idx) : y ∈ OutSet s ↔ (y 0).val = s.val := by
  rw [Rect.mem_set_unit]
  have h1 : (y 1).val < 200 := (y 1).isLt
  have h2 : (y 2).val < 128 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 200; omega
    · show 0 ≤ (y 2).val ∧ (y 2).val < 0 + 128; omega

/-- Sets told apart by one number of each index are disjoint; -/
theorem disjoint_of_tag {ι : Type} [DecidableEq ι] {n : ℕ} {I : Fin n → Finset ι} (tag : ι → ℕ) (h : ∀ b y, y ∈ I b ↔ tag y = b.val) :
    ∀ b b', b ≠ b' → Disjoint (I b) (I b') := by
  intro b b' hne; rw [Finset.disjoint_left]; intro y hy hy'; rw [h] at hy hy'; exact hne (Fin.ext (hy.symm.trans hy'))
/-- and cover, when the number is always one of theirs. -/
theorem cover_of_tag {ι : Type} [DecidableEq ι] [Fintype ι] {n : ℕ} {I : Fin n → Finset ι} (tag : ι → ℕ) (h : ∀ b y, y ∈ I b ↔ tag y = b.val)
    (hl : ∀ y, tag y < n) : (Finset.univ : Finset (Fin n)).biUnion I = Finset.univ := by
  ext y; simp only [Finset.mem_biUnion, Finset.mem_univ, true_and, iff_true]; exact ⟨⟨tag y, hl y⟩, by rw [h]⟩

theorem Arows_disjoint : ∀ b b', b ≠ b' → Disjoint (ArowsSet b) (ArowsSet b') := disjoint_of_tag (fun y => (y 0).val / 200) mem_Arows
theorem Rrows_disjoint : ∀ b b', b ≠ b' → Disjoint (RrowsSet b) (RrowsSet b') := disjoint_of_tag (fun y => (y 0).val / 200) mem_Rrows
theorem In_disjoint : ∀ s s', s ≠ s' → Disjoint (InSet s) (InSet s') := disjoint_of_tag (fun y => (y 0).val) mem_In
theorem Out_disjoint : ∀ s s', s ≠ s' → Disjoint (OutSet s) (OutSet s') := disjoint_of_tag (fun y => (y 0).val) mem_Out
theorem Arows_cover : Finset.univ.biUnion ArowsSet = Finset.univ :=
  cover_of_tag (fun y => (y 0).val / 200) mem_Arows fun y => by have h : (y 0).val < 10000 := (y 0).isLt; omega
theorem Rrows_cover : Finset.univ.biUnion RrowsSet = Finset.univ :=
  cover_of_tag (fun y => (y 0).val / 200) mem_Rrows fun y => by have h : (y 0).val < 10000 := (y 0).isLt; omega
theorem In_cover : Finset.univ.biUnion InSet = Finset.univ := cover_of_tag (fun y => (y 0).val) mem_In fun y => (y 0).isLt
theorem Out_cover : Finset.univ.biUnion OutSet = Finset.univ := cover_of_tag (fun y => (y 0).val) mem_Out fun y => (y 0).isLt

/-! ## Held whole, held in pieces -/

theorem bigSep_two (Φ : Fin 2 → sProp 𝕄) : bigSep Finset.univ Φ = iprop(Φ 0 ∗ Φ 1) :=
  bigSep_univ_eq_bigSepL [(0 : Fin 2), (1 : Fin 2)] (by decide) (by decide) Φ
theorem bigSep_four (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

variable (c : Dev nD)

/-- `adj` whole is its fifty blocks at rest; -/
theorem adj_eq (f : AdjBuf F c) : (((c : Thread nD τ).loc main_arg1) ↦{fullShare} f : sProp 𝕄) = bigSep Finset.univ (homeP c f) := by
  rw [Ring.pointsTo_blocks (ℓ := (c : Thread nD τ).loc main_arg1) ArowsSet Arows_disjoint Arows_cover]
  exact bigSep_congr fun b _ => by rw [← ablk_set]; rfl
/-- the result whole is its fifty blocks. -/
theorem res_eq (f : ResBuf F c) : (((c : Thread nD τ).loc main_v0) ↦{fullShare} f : sProp 𝕄) = bigSep Finset.univ (fun b => resP c b f) := by
  rw [Ring.pointsTo_blocks (ℓ := (c : Thread nD τ).loc main_v0) RrowsSet Rrows_disjoint Rrows_cover]
  exact bigSep_congr fun b _ => by rw [← oblk_set]; rfl

theorem islotP_eq (s : Fin 4) (f) : islotP c s f = (((c : Thread nD τ).loc cc0_scoped0) ↦[InSet s]{fullShare} f : sProp 𝕄) :=
  congrArg (fun S => (_ ↦[S]{fullShare} f : sProp 𝕄)) (islot_set s)
theorem oslotP_eq (s : Fin 2) (f) : oslotP c s f = (((c : Thread nD τ).loc cc0_scoped2) ↦[OutSet s]{fullShare} f : sProp 𝕄) :=
  congrArg (fun S => (_ ↦[S]{fullShare} f : sProp 𝕄)) (oslot_set s)

/-- The read buffer at anything splits into its four slots at anything, and joins back; -/
theorem inb_split : iprop(∃ f : Buf (Elt F) ((c : Thread nD τ).loc cc0_scoped0), ((c : Thread nD τ).loc cc0_scoped0) ↦{fullShare} f)
    ⊢ (iprop((∃ f, islotP c 0 f) ∗ (∃ f, islotP c 1 f) ∗ (∃ f, islotP c 2 f) ∗ ∃ f, islotP c 3 f) : sProp 𝕄) := by
  iintro ⟨%f, H⟩
  ihave H4 := (eq_entails ((Ring.pointsTo_blocks (ℓ := (c : Thread nD τ).loc cc0_scoped0) InSet In_disjoint In_cover f).trans (bigSep_four _))) $$ H
  icases H4 with ⟨H0, H1, H2, H3⟩
  isplitl [H0]; · iexists f; iapply (eq_entails (islotP_eq c 0 f).symm); iexact H0
  isplitl [H1]; · iexists f; iapply (eq_entails (islotP_eq c 1 f).symm); iexact H1
  isplitl [H2]; · iexists f; iapply (eq_entails (islotP_eq c 2 f).symm); iexact H2
  iexists f; iapply (eq_entails (islotP_eq c 3 f).symm); iexact H3
theorem inb_join : iprop((∃ f, islotP c 0 f) ∗ (∃ f, islotP c 1 f) ∗ (∃ f, islotP c 2 f) ∗ ∃ f, islotP c 3 f)
    ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scoped0) InSet In_disjoint In_cover f0)
  irw [bigSep_four]
  isplitl [H0]; · iexists f0; iapply (eq_entails (islotP_eq c 0 f0)); iexact H0
  isplitl [H1]; · iexists f1; iapply (eq_entails (islotP_eq c 1 f1)); iexact H1
  isplitl [H2]; · iexists f2; iapply (eq_entails (islotP_eq c 2 f2)); iexact H2
  iexists f3; iapply (eq_entails (islotP_eq c 3 f3)); iexact H3
/-- so does the write buffer into its two. -/
theorem oub_split : iprop(∃ f : Buf (Elt F) ((c : Thread nD τ).loc cc0_scoped2), ((c : Thread nD τ).loc cc0_scoped2) ↦{fullShare} f)
    ⊢ (iprop((∃ f, oslotP c 0 f) ∗ ∃ f, oslotP c 1 f) : sProp 𝕄) := by
  iintro ⟨%f, H⟩
  ihave H2 := (eq_entails ((Ring.pointsTo_blocks (ℓ := (c : Thread nD τ).loc cc0_scoped2) OutSet Out_disjoint Out_cover f).trans (bigSep_two _))) $$ H
  icases H2 with ⟨H0, H1⟩
  isplitl [H0]; · iexists f; iapply (eq_entails (oslotP_eq c 0 f).symm); iexact H0
  iexists f; iapply (eq_entails (oslotP_eq c 1 f).symm); iexact H1
theorem oub_join : iprop((∃ f, oslotP c 0 f) ∗ ∃ f, oslotP c 1 f)
    ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩⟩
  iapply (Ring.pointsTo_blocks_join_exists (ℓ := (c : Thread nD τ).loc cc0_scoped2) OutSet Out_disjoint Out_cover f0)
  irw [bigSep_two]
  isplitl [H0]; · iexists f0; iapply (eq_entails (oslotP_eq c 0 f0)); iexact H0
  iexists f1; iapply (eq_entails (oslotP_eq c 1 f1)); iexact H1

/-- The product buffer whole is the product buffer. -/
theorem supP_eq (f : SupBuf F c) : (((c : Thread nD τ).loc cc0_scratch0) ↦{fullShare} f : sProp 𝕄) = supP c f := by
  simp only [supP, Memref.view_whole, View.set_whole]

set_option maxRecDepth 16384 in
/-- At entry blocks 0, 1, 2 of `adj` are taken apart from the rest. -/
theorem homes_first (f : AdjBuf F c) :
    bigSep Finset.univ (homeP c f) = iprop(homeP c f 0 ∗ homeP c f 1 ∗ homeP c f 2 ∗ bigSep (Ring.homeSet 3 0) (homeP c f)) := by
  have e : (Finset.univ : Finset (Fin 50)) = insert 0 (insert 1 (insert 2 (Ring.homeSet (NB := 50) 3 0))) := by
    ext b; simp only [Finset.mem_univ, Finset.mem_insert, Ring.mem_homeSet, true_iff, Fin.ext_iff]
    have := b.isLt
    show b.val = 0 ∨ b.val = 1 ∨ b.val = 2 ∨ _; omega
  rw [e, bigSep_insert (by simp [Ring.mem_homeSet, Fin.ext_iff]), bigSep_insert (by simp [Ring.mem_homeSet, Fin.ext_iff]), bigSep_insert (by simp [Ring.mem_homeSet])]; rfl

end Cert.Proof.Spmm

end
-- ==== Proof.Launch.lean ====
/-
  The launch: the kernel's run from any memory with zero counters, with the contents of the result named.
-/
module

public import proofs.«01_k».proof.Proof.Geometry

@[expose] public section

noncomputable section

namespace Cert.Proof.Spmm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxRecDepth 16384

variable {F : FTy → Type} [FloatOps F]
local notation "𝕄" => MT nD τ sig Unit (Elt F) ℕ (UU nD τ) ℕ

/-- Where the launch's bookkeeping lives. -/
abbrev EP : Emb (UR sig nD τ) (MT nD τ sig Unit (Elt F) ℕ (UU nD τ) ℕ) := embL

variable (m : (ℓ : Loc nD τ sig) → Buf (Elt F) ℓ) (ρ : Dev nD → PrngReg)

/-! ## What the run leaves -/

/-- `input` and `weight` as the run finds them, and `adj`; -/
abbrev xIn (c : Dev nD) : Vec F S10000x128 .f32 := m ((c : Thread nD τ).loc main_arg0)
abbrev wIn (c : Dev nD) : Vec F S128x128 .f32 := m ((c : Thread nD τ).loc main_arg2)
abbrev aIn (c : Dev nD) : AdjBuf F c := m ((c : Thread nD τ).loc main_arg1)
/-- the result as it leaves it. -/
def outIs (c : Dev nD) : ResBuf F c := resF c (aIn m c) (k0_pay2 (xIn m c) (wIn m c))

/-! ## The kernel's own semaphores -/

/-- The four slots' of the read buffer, then the two of the write buffer. -/
abbrev osem : Fin 6 → SemLoc sig := ![.dma (isem 0).sem, .dma (isem 1).sem, .dma (isem 2).sem, .dma (isem 3).sem, .dma (osem1 0).sem, .dma (osem1 1).sem]
theorem ownSemFacts : Pipeline.OwnSemFacts spec0 osem := by decide

theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), (1 : Fin 6), (2 : Fin 6), (3 : Fin 6), (4 : Fin 6), (5 : Fin 6)] (by decide) (by decide) Φ
theorem ownSems0_eq (c : Dev nD) : (Pipeline.ownSems0 (Ix := Unit) (Name := ℕ) (U := UU nD τ) (Lvl := ℕ) (Val := Elt F) (τ := τ) osem c : sProp 𝕄)
    = iprop(icellP c 0 ∗ icellP c 1 ∗ icellP c 2 ∗ icellP c 3 ∗ ocellP c 0 ∗ ocellP c 1) := by
  unfold Pipeline.ownSems0; rw [bigSep_six]; rfl

/-! ## The pipeline's proof data -/

/-- What the kernel keeps apart from its windows: `adj`, the slots, the product buffer, and the result at `R`. -/
def keep (R : (c : Dev nD) → ResBuf F c) (c : Dev nD) : sProp 𝕄 :=
  iprop(bigSep Finset.univ (homeP c (aIn m c)) ∗ inRest c 0 ∗ inRest c 1 ∗ inRest c 2 ∗ inRest c 3 ∗ outRest c 0 ∗ outRest c 1
    ∗ (∃ f, supP c f) ∗ bigSep Finset.univ (fun b => resP c b (R c)))

abbrev st0 (t : Fin cfg0.N) : Memref sig .tc .vmem S10000x128 .f32 := win0_0.stage (cfg0.slots t 0)
abbrev st1 (t : Fin cfg0.N) : Memref sig .tc .vmem S128x128 .f32 := win0_1.stage (cfg0.slots t 1)
abbrev hst0 (t : Fin cfg0.N) : (st0 t).IsWhole := hstage0_0 0
abbrev hst1 (t : Fin cfg0.N) : (st1 t).IsWhole := hstage0_1 0

/-- Window `w`'s block, read off its array at launch. -/
def iblk (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

def dats (_ : Fin 1) (c : Dev nD) : Dat τ (Elt F) Unit ℕ (UU nD τ) ℕ cfg0 c where
  A w := m ((c : Thread nD τ).loc (Pipeline.arrRef spec0 w))
  after w t := match w with
    | ⟨0, _⟩ => iblk m c 0 t
    | ⟨1, _⟩ => iblk m c 1 t
  Φ t := if t.val = 0 then keep m (fun c => m ((c : Thread nD τ).loc main_v0)) c else keep m (outIs m) c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]

/-- Each window's block is its whole array. -/
theorem xVec_rep (c : Dev nD) (t : Fin cfg0.N) : xVec c (st0 t) ((st0 t).view.rep (iblk m c 0 t)) = xIn m c := by
  refine (View.readAt_full _ _ _).trans ((View.read_rep _ _).trans ?_)
  funext j
  unfold iblk
  exact congrArg (xIn m c) (funext fun a => Fin.ext (show 0 * _ + 1 * (j a).val = (j a).val by omega))
theorem wVec_rep (c : Dev nD) (t : Fin cfg0.N) : wVec c (st1 t) ((st1 t).view.rep (iblk m c 1 t)) = wIn m c := by
  refine (View.readAt_full _ _ _).trans ((View.read_rep _ _).trans ?_)
  funext j
  unfold iblk
  exact congrArg (wIn m c) (funext fun a => Fin.ext (show 0 * _ + 1 * (j a).val = (j a).val by omega))

theorem resNew_eq (c : Dev nD) (t : Fin cfg0.N) :
    (bigSep Finset.univ (resNew c (aIn m c) (supOf c (xVec c (st0 t) ((st0 t).view.rep (iblk m c 0 t))) (wVec c (st1 t) ((st1 t).view.rep (iblk m c 1 t))))) : sProp 𝕄)
      = bigSep Finset.univ (fun b => resP c b (outIs m c)) := by
  unfold resNew outIs
  rw [xVec_rep, wVec_rep, supVec_supOf]

/-! ## The body obligation -/

/-- The body table's entry is the kernel on the point's staging buffers, in two steps. -/
theorem defs_tc : (defs₀ (F := F)) .tc cfg0.body
    = fun a => bodyG (win0_0.stage (a.2 0)) (hstage0_0 0) (win0_1.stage (a.2 1)) (hstage0_1 0) := rfl
theorem prog_eq (t : Fin cfg0.N) : (defs₀ (F := F)) .tc cfg0.body (cfg0.bodyArgs t (cfg0.slots t)) = bodyG (st0 t) (hst0 t) (st1 t) (hst1 t) :=
  (congrFun defs_tc _).trans rfl

theorem keep_in (c : Dev nD) (t : Fin cfg0.N) : (dats m 0 c).Φ t.castSucc = keep m (fun c => m ((c : Thread nD τ).loc main_v0)) c := by
  have h : t.val = 0 := by rw [fin_N0 t]; rfl
  exact if_pos h
theorem keep_out (c : Dev nD) (t : Fin cfg0.N) : (dats m 0 c).Φ t.succ = keep m (outIs m) c :=
  if_neg (t := keep m (fun c => m ((c : Thread nD τ).loc main_v0)) c) (Nat.succ_ne_zero t.val)

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, after_w0, after_w1]
  rw [keep_in m c t, keep_out m c t]
  unfold Dat.owesAt Pipeline.owesWithin
  rw [show (dats m 0 c).owed t.castSucc = 0 from rfl, show (dats m 0 c).owed t.succ = 0 from rfl]
  unfold owns keep
  iintro ⟨⟨Ha, Hi0, Hi1, Hi2, Hi3, Ho0, Ho1, ⟨%gs, Hs⟩, Hr⟩, ⟨%W, -, HW⟩, ⟨%d0, %g0, %hg0, Hx⟩, ⟨%d1, %g1, %hg1, Hw⟩⟩
  ihave Ha' := (eq_entails (homes_first c (aIn m c))) $$ Ha
  icases Ha' with ⟨Ha0, Ha1, Ha2, Hh⟩
  ihave Hx' := (pointsTo_rep_entails (c : Thread nD τ) (st0 t) g0 fullShare) $$ Hx
  ihave Hw' := (pointsTo_rep_entails (c : Thread nD τ) (st1 t) g1 fullShare) $$ Hw
  rw [hg0, hg1]
  sl_rw [prog_eq t]
  iapply (bodyRun c (aIn m c) (m ((c : Thread nD τ).loc main_v0)) (st0 t) (hst0 t) (st1 t) (hst1 t) _ _ gs W)
  isplitl [Hx' Hw' Hs HW Ha0 Ha1 Ha2 Hh Hi0 Hi1 Hi2 Hi3 Ho0 Ho1 Hr]
  · isplitl [Hx']; · iexact Hx'
    isplitl [Hw']; · iexact Hw'
    isplitl [Hs]; · iexact Hs
    isplitl [HW]; · iexact HW
    isplitl [Ha0]; · iexact Ha0
    isplitl [Ha1]; · iexact Ha1
    isplitl [Ha2]; · iexact Ha2
    isplitl [Hh]; · iexact Hh
    isplitl [Hi0]; · iexact Hi0
    isplitl [Hi1]; · iexact Hi1
    isplitl [Hi2]; · iexact Hi2
    isplitl [Hi3]; · iexact Hi3
    isplitl [Ho0]; · iexact Ho0
    isplitl [Ho1]; · iexact Ho1
    iexact Hr
  · unfold steady
    iintro ⟨Hx, Hw, ⟨Hs, %W', HW⟩, Hh, Hi0, Hi1, Hi2, Hi3, Ho0, Ho1, Hr⟩
    isplitl [Hs Hh Hi0 Hi1 Hi2 Hi3 Ho0 Ho1 Hr]
    · isplitl [Hh]; · iexact Hh
      isplitl [Hi0]; · iexact Hi0
      isplitl [Hi1]; · iexact Hi1
      isplitl [Hi2]; · iexact Hi2
      isplitl [Hi3]; · iexact Hi3
      isplitl [Ho0]; · iexact Ho0
      isplitl [Ho1]; · iexact Ho1
      isplitl [Hs]; · iexists _; iexact Hs
      iapply (eq_entails (resNew_eq m c t)); iexact Hr
    isplitl [HW]
    · iexists W'; isplitr; · ipureintro; exact fun _ _ => Or.inl trivial
      iexact HW
    isplitl [Hx]
    · iexists _; isplitr; · ipureintro; exact View.read_rep _ _
      iexact Hx
    iexists _; isplitr; · ipureintro; exact View.read_rep _ _
    iexact Hw

/-! ## The run -/

def intoKeep (c : Dev nD) : sProp 𝕄 :=
  iprop(bigSep Finset.univ (homeP c (aIn m c)) ∗ bigSep Finset.univ (fun b => resP c b (m ((c : Thread nD τ).loc main_v0))) ∗ Pipeline.ownSems0 osem c)
def leaves (c : Dev nD) : sProp 𝕄 :=
  iprop((((c : Thread nD τ).loc main_arg1) ↦{fullShare} aIn m c) ∗ (((c : Thread nD τ).loc main_v0) ↦{fullShare} outIs m c))
def u₀ : UU nD τ := (initOf (Pipeline.cells cfgs cellOf_inj) (Pipeline.launchToks cfgs cellOf_inj), 1)
def QY (c : Dev nD) (s : MemSt nD τ sig (Elt F)) : Prop :=
  s.mem ((c : Thread nD τ).loc main_arg1) = aIn m c ∧ s.mem ((c : Thread nD τ).loc main_v0) = outIs m c
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

theorem gather_in (c : Dev nD) : iprop(intoKeep m c ∗ Pipeline.scopedRest (Ix := Unit) (Name := ℕ) (U := UU nD τ) (Lvl := ℕ) (Val := Elt F) spec0 c)
    ⊢ (keep m (fun c => m ((c : Thread nD τ).loc main_v0)) c : sProp 𝕄) := by
  rw [scopedRest0_eq]
  unfold intoKeep keep inRest outRest
  rw [ownSems0_eq]
  iintro ⟨⟨Ha, Hr, Hc0, Hc1, Hc2, Hc3, Hd0, Hd1⟩, ⟨%gs, Hs⟩, Hi, Ho⟩
  ihave Hi' := (inb_split c) $$ Hi
  ihave Ho' := (oub_split c) $$ Ho
  icases Hi' with ⟨Hi0, Hi1, Hi2, Hi3⟩
  icases Ho' with ⟨Ho0, Ho1⟩
  isplitl [Ha]; · iexact Ha
  isplitl [Hc0 Hi0]
  · isplitl [Hc0]; · iexact Hc0
    iexact Hi0
  isplitl [Hc1 Hi1]
  · isplitl [Hc1]; · iexact Hc1
    iexact Hi1
  isplitl [Hc2 Hi2]
  · isplitl [Hc2]; · iexact Hc2
    iexact Hi2
  isplitl [Hc3 Hi3]
  · isplitl [Hc3]; · iexact Hc3
    iexact Hi3
  isplitl [Hd0 Ho0]
  · isplitl [Hd0]; · iexact Hd0
    iexact Ho0
  isplitl [Hd1 Ho1]
  · isplitl [Hd1]; · iexact Hd1
    iexact Ho1
  isplitl [Hs]; · iexists gs; iapply (eq_entails (supP_eq c gs)); iexact Hs
  iexact Hr

theorem hand_out (c : Dev nD) : (keep m (outIs m) c : sProp 𝕄)
    ⊢ iprop(leaves m c ∗ Pipeline.ownSems0 osem c ∗ Pipeline.scopedRest (Ix := Unit) (Name := ℕ) (U := UU nD τ) (Lvl := ℕ) (Val := Elt F) spec0 c) := by
  rw [scopedRest0_eq]
  unfold leaves keep inRest outRest
  rw [ownSems0_eq, adj_eq, res_eq]
  iintro ⟨Ha, ⟨Hc0, Hi0⟩, ⟨Hc1, Hi1⟩, ⟨Hc2, Hi2⟩, ⟨Hc3, Hi3⟩, ⟨Hd0, Ho0⟩, ⟨Hd1, Ho1⟩, ⟨%gs, Hs⟩, Hr⟩
  isplitl [Ha Hr]
  · isplitl [Ha]; · iexact Ha
    iexact Hr
  isplitl [Hc0 Hc1 Hc2 Hc3 Hd0 Hd1]
  · isplitl [Hc0]; · iexact Hc0
    isplitl [Hc1]; · iexact Hc1
    isplitl [Hc2]; · iexact Hc2
    isplitl [Hc3]; · iexact Hc3
    isplitl [Hd0]; · iexact Hd0
    iexact Hd1
  isplitl [Hs]; · iexists gs; iapply (eq_entails (supP_eq c gs).symm); iexact Hs
  isplitl [Hi0 Hi1 Hi2 Hi3]
  · iapply (inb_join c)
    isplitl [Hi0]; · iexact Hi0
    isplitl [Hi1]; · iexact Hi1
    isplitl [Hi2]; · iexact Hi2
    iexact Hi3
  iapply (oub_join c)
  isplitl [Ho0]; · iexact Ho0
  iexact Ho1

set_option backward.isDefEq.respectTransparency.types false in
/-- For any float values, from any memory with zero counters, every weakly fair execution of @main ends; every final
    state has `input` and `weight` as their windows leave them, `adj` unchanged, the result at `outIs`, every counter
    at zero. -/
theorem run_windows : θ_run defs (onTc (τ := τ) (main (F := F))) ⟨m, fun _ => 0, ρ⟩ (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := intoKeep m) (Y := leaves m) (Z := fun _ => iprop(emp))
    (hX := fun c => by
      rw [unscopedRest0_eq, adj_eq, res_eq]
      unfold intoKeep
      iintro ⟨⟨Ha, Hr⟩, HS, -, -, -⟩; imodintro
      isplitl [Ha Hr HS]
      · isplitl [Ha]; · iexact Ha
        isplitl [Hr]; · iexact Hr
        iexact HS
      iempintro)
    (hin := fun c => (gather_in m c).trans (eq_entails (keep_in m c t0_0).symm))
    (hout := fun c => (eq_entails (keep_out m c t0_0)).trans (hand_out m c))
    (QY := QY m)
    (hY := fun c s' => by
      unfold leaves
      iintro ⟨⟨H1, H0⟩, -, HSI⟩
      icombine HSI H1 gives %h1
      icombine HSI H0 gives %h0
      imodintro
      isplitr; · ipureintro; exact ⟨Buf.eq_of_forall_mem_univ h1, Buf.eq_of_forall_mem_univ h0⟩
      iexact HSI)
    (hQ := fun _ hh hz => ⟨hh, hz⟩)

/-- The same, said of the four arrays. -/
theorem run_main : θ_run defs (onTc (τ := τ) (main (F := F))) ⟨m, fun _ => 0, ρ⟩ (fun r =>
    (∀ c : Dev nD, r.2.mem ((c : Thread nD τ).loc main_v0) = outIs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ hh => ⟨fun c =>
    ⟨(hh.1 c).2.2, ((hh.1 c).1 0).trans ((dats (F := F) m 0 c).arrAt_in 0 rfl _), (hh.1 c).2.1, ((hh.1 c).1 1).trans ((dats (F := F) m 0 c).arrAt_in 1 rfl _)⟩, hh.2⟩)
    (run_windows m ρ)

end Cert.Proof.Spmm

end
-- ==== Proof.Algebra.lean ====
/-
  Over the extended reals the kernel's result is the reference's: two matrix products, the second taken by blocks of rows.
-/
module

public import proofs.«01_k».proof.Proof.Launch
public import proofs.«01_k».proof.ReferenceIdeal
public import proofs.«01_k».proof.Proof.Gen.ReferenceIdeal
public import Idealize.ShloMosaic.Lib.MatmulPlain
public import Idealize.ShloMosaic.Lib.StackMember

@[expose] public section

noncomputable section

namespace Cert.Proof.Spmm

open Cert.KernelIdeal Cert.KernelIdeal.Gen
open Idealize.ShloMosaic Idealize.ShloMosaic.TcCoe Idealize.ShloMosaic.ValueIdx
open scoped BigOperators

/-- The kernel's accumulator is zero. -/
theorem acc_zero {s : Shape} (j : s.Idx) : (constant s .f32 0x00000000#32 : FVec Ideal s .f32) j = 0 := by
  show Ideal.ofBits .f32 0x00000000#32 = 0
  simp [Ideal.ofBits, Ideal.ieee]

/-- `input @ weight` at row `r`, column `q`: the kernel's, -/
theorem pay2_apply (x : FVec Ideal S10000x128 .f32) (w : FVec Ideal S128x128 .f32) (r : Fin 10000) (q : Fin 128) :
    k0_pay2 (F := Ideal) x w (ix2 r q) = ∑ l : Fin 128, x (ix2 r l) * w (ix2 l q) := by
  unfold k0_pay2
  rw [shapeCast_self]
  refine (Ideal.matmul_plain_apply (M := 10000) (K := 128) (N := 128) none x w _ r q).trans ?_
  rw [acc_zero, zero_add]
/-- and the reference's. -/
theorem ref_support_apply (x : FVec Ideal S10000x128 .f32) (w : FVec Ideal S128x128 .f32) (r : Fin 10000) (q : Fin 128) :
    Host.dotGeneral Cert.ReferenceIdeal.dot_S10000x128_S128x128_S10000x128_1_0_0_1_n_n none x w (ix2 r q) = ∑ l : Fin 128, x (ix2 r l) * w (ix2 l q) :=
  StackMember.dotGeneral_plain_apply (m := 10000) (k := 128) (n := 128) none x w r q

/-- The kernel's product buffer holds the reference's `support`. -/
theorem pay2_eq (x : FVec Ideal S10000x128 .f32) (w : FVec Ideal S128x128 .f32) :
    k0_pay2 (F := Ideal) x w = Host.dotGeneral Cert.ReferenceIdeal.dot_S10000x128_S128x128_S10000x128_1_0_0_1_n_n none x w := by
  funext j
  obtain ⟨r, q, rfl⟩ : ∃ (r : Fin 10000) (q : Fin 128), j = ix2 r q := ⟨j 0, j 1, ValueIdx.eq_ix2 j⟩
  rw [pay2_apply, ref_support_apply]

/-- Row `r` of block `b` of `adj` is row `200 b + r`. -/
theorem adjBlk_apply (c : Dev nD) (A : AdjBuf Ideal c) (b : Fin 50) (r : Fin 200) (k : Fin 10000) (R : Fin 10000) (hR : R.val = 200 * b.val + r.val) :
    adjBlk c A b (ix2 r k) = (A : S10000x10000.Idx → Ideal .f32) (ix2 R k) := by
  show (A : S10000x10000.Idx → Ideal .f32) ((Rect.unit (s := S10000x10000) (rowOff b) S200x10000.size (rowOff_adj b)).emb (ix2 r k)) = _
  refine congrArg (A : S10000x10000.Idx → Ideal .f32) (funext fun a => Fin.ext ?_)
  fin_cases a
  · show 200 * b.val + 1 * r.val = R.val; omega
  · show 0 + 1 * k.val = k.val; omega

/-- Block by block, the kernel's second product is the reference's. -/
theorem resF_eq (c : Dev nD) (A : AdjBuf Ideal c) (S : FVec Ideal S10000x128 .f32) :
    resF c A S = Host.dotGeneral (F := Ideal) (φ₁ := .f32) (φ₂ := .f32) Cert.ReferenceIdeal.dot_S10000x10000_S10000x128_S10000x128_1_0_0_1_n_n none (A : FVec Ideal S10000x10000 .f32) S := by
  funext j
  have hj : (j 0).val < 10000 := (j 0).isLt
  refine Eq.trans ?_ ((congrArg _ (ValueIdx.eq_ix2 j)).trans (StackMember.dotGeneral_plain_apply (m := 10000) (k := 10000) (n := 128) none (A : FVec Ideal S10000x10000 .f32) S (j 0) (j 1))).symm
  unfold resF blkVal
  refine (Ideal.matmul_plain_apply (M := 200) (K := 10000) (N := 128) none _ S _ _ _).trans ?_
  rw [acc_zero, zero_add]
  refine Finset.sum_congr rfl fun k _ => ?_
  rw [adjBlk_apply c A _ _ k (j 0) (by show (j 0).val = 200 * ((j 0).val / 200) + (j 0).val % 200; omega)]
  rfl

/-- What the kernel leaves in the result is the reference's two products. -/
theorem outIs_eq (m : (ℓ : Loc nD τ sig) → Buf (Elt Ideal) ℓ) (c : Dev nD) :
    outIs m c = Host.dotGeneral (F := Ideal) (φ₁ := .f32) (φ₂ := .f32) Cert.ReferenceIdeal.dot_S10000x10000_S10000x128_S10000x128_1_0_0_1_n_n none (aIn m c : FVec Ideal S10000x10000 .f32)
      (Host.dotGeneral (F := Ideal) (φ₁ := .f32) (φ₂ := .f32) Cert.ReferenceIdeal.dot_S10000x128_S128x128_S10000x128_1_0_0_1_n_n none (xIn m c) (wIn m c)) := by
  unfold outIs
  rw [pay2_eq, resF_eq]

end Cert.Proof.Spmm

end
-- ==== Proof.Same.lean ====
/-
  The kernel as printed and its idealized program have the same text: their body tables are equal.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Proof.Spmm

open Idealize.ShloMosaic Idealize.ShloMosaic.TcCoe

variable {F : FTy → Type} [FloatOps F]

set_option maxRecDepth 16384

/-- The one kernel's row of the two tables, -/
theorem row_same (a) : (Cert.Kernel.defs₀ (F := F)) .tc 0 a = (Cert.KernelIdeal.defs₀ (F := F)) .tc 0 a := rfl

/-- so the kernels' tables, -/
theorem kernels_same : (Cert.Kernel.defs₀ (F := F)) = Cert.KernelIdeal.defs₀ (F := F) := by
  funext p l a
  cases p with
  | tc =>
    obtain ⟨l, hl⟩ := l
    obtain rfl : l = 0 := Nat.lt_one_iff.1 hl
    exact row_same a
  | _ => rfl

/-- so the whole tables. -/
theorem defs_same : (Cert.Kernel.defs (F := F)) = Cert.KernelIdeal.defs (F := F) :=
  congrArg (Pipeline.defs (Cert.KernelIdeal.pcfgs (F := F))) kernels_same

end Cert.Proof.Spmm

end
-- ==== Proof.lean ====
/-
  The claims, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Algebra
public import proofs.«01_k».proof.Proof.Same

@[expose] public section

noncomputable section

namespace Cert.Proof

open Idealize.ShloMosaic Idealize.ShloMosaic.TcCoe Idealize.SL.Sem

/-- The kernel as printed runs, leaves its arguments, and leaves every counter at zero: its run is the idealized
    program's, at the chip's words. -/
theorem frame_kernel : Cert.quiescent_Kernel := by
  intro m ρ _
  rw [Spmm.defs_same (F := Bits)]
  exact (θ_run Cert.KernelIdeal.defs _ _).mono (fun _ h => ⟨fun c => (h.1 c).2, h.2⟩) (Spmm.run_main (F := Bits) m ρ)

/-- So does the idealized kernel, -/
theorem frame_ideal : Cert.quiescent_KernelIdeal := fun m ρ _ =>
  (θ_run Cert.KernelIdeal.defs _ _).mono (fun _ h => ⟨fun c => (h.1 c).2, h.2⟩) (Spmm.run_main (F := Ideal) m ρ)

/-- and the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel's result is `adj @ (input @ weight)`, the reference's. -/
theorem algebraic : Cert.algebraic_KernelIdeal_ReferenceIdeal := by
  intro m ρ m' ρ' _ hagree
  refine ⟨fun c => Spmm.outIs m c, ?_, ?_⟩
  · exact (θ_run Cert.KernelIdeal.defs _ _).mono (fun _ h => h.1) (Spmm.run_main (F := Ideal) m ρ)
  · refine (θ_run Cert.ReferenceIdeal.defs _ _).mono (fun _ h c => ⟨(h c).1.trans ?_, (h c).2⟩) (Cert.ReferenceIdeal.Value.run (F := Ideal) m' ρ')
    refine Eq.trans ?_ (Spmm.outIs_eq m c).symm
    rw [(hagree c).1, (hagree c).2.1, (hagree c).2.2]

theorem claim : Cert.Claim :=
  ⟨Cert.Kernel.Gen.facts, Cert.KernelIdeal.Gen.facts, Cert.ReferenceIdeal.Gen.facts, frame_kernel, frame_ideal, frame_reference, trivial, algebraic⟩

end Cert.Proof

end
